-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x8x32x2 : Shape := ⟨4, ![16384, 8, 32, 2]⟩
abbrev S16384x32x3 : Shape := ⟨3, ![16384, 32, 3]⟩
abbrev S16384x8x3x4 : Shape := ⟨4, ![16384, 8, 3, 4]⟩
abbrev S16384x8x32 : Shape := ⟨3, ![16384, 8, 32]⟩
abbrev S2x8x32x16384 : Shape := ⟨4, ![2, 8, 32, 16384]⟩
abbrev S8x3x4x16384 : Shape := ⟨4, ![8, 3, 4, 16384]⟩
abbrev S8x32x16384 : Shape := ⟨3, ![8, 32, 16384]⟩
abbrev S3x32x16384 : Shape := ⟨3, ![3, 32, 16384]⟩
abbrev S16x1x1024 : Shape := ⟨3, ![16, 1, 1024]⟩
abbrev S2x8x32x1024 : Shape := ⟨4, ![2, 8, 32, 1024]⟩
abbrev S8x3x4x1024 : Shape := ⟨4, ![8, 3, 4, 1024]⟩
abbrev S8x32x1024 : Shape := ⟨3, ![8, 32, 1024]⟩
abbrev S3x32x1024 : Shape := ⟨3, ![3, 32, 1024]⟩
abbrev S1x1x1024 : Shape := ⟨3, ![1, 1, 1024]⟩
abbrev S1x1x32x1024 : Shape := ⟨4, ![1, 1, 32, 1024]⟩
abbrev S32x1024 : Shape := ⟨2, ![32, 1024]⟩
abbrev S1x32x1024 : Shape := ⟨3, ![1, 32, 1024]⟩
abbrev S1x1x1x1024 : Shape := ⟨4, ![1, 1, 1, 1024]⟩
abbrev S1x1024 : Shape := ⟨2, ![1, 1024]⟩
abbrev S1024 : Shape := ⟨1, ![1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S16384x8x32x2, .f32⟩
  | .hbm, ⟨1, _⟩ => ⟨S16384x32x3, .f32⟩
  | .hbm, ⟨2, _⟩ => ⟨S16384x8x3x4, .f32⟩
  | .hbm, ⟨3, _⟩ => ⟨S16384x8x32, .f32⟩
  | .hbm, ⟨4, _⟩ => ⟨S2x8x32x16384, .f32⟩
  | .hbm, ⟨5, _⟩ => ⟨S8x3x4x16384, .f32⟩
  | .hbm, ⟨6, _⟩ => ⟨S8x32x16384, .f32⟩
  | .hbm, ⟨7, _⟩ => ⟨S3x32x16384, .f32⟩
  | .hbm, ⟨8, _⟩ => ⟨S16x1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2x8x32x1024, .f32⟩
  | .local _ .vmem, ⟨1, _⟩ => ⟨S2x8x32x1024, .f32⟩
  | .local _ .vmem, ⟨2, _⟩ => ⟨S8x3x4x1024, .f32⟩
  | .local _ .vmem, ⟨3, _⟩ => ⟨S8x3x4x1024, .f32⟩
  | .local _ .vmem, ⟨4, _⟩ => ⟨S8x32x1024, .f32⟩
  | .local _ .vmem, ⟨5, _⟩ => ⟨S8x32x1024, .f32⟩
  | .local _ .vmem, ⟨6, _⟩ => ⟨S3x32x1024, .f32⟩
  | .local _ .vmem, ⟨7, _⟩ => ⟨S3x32x1024, .f32⟩
  | .local _ .vmem, ⟨8, _⟩ => ⟨S1x1x1024, .f32⟩
  | .local _ .vmem, ⟨9, _⟩ => ⟨S1x1x1024, .f32⟩
  | _, _ => ⟨S16384x8x32x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c5_i32 : BitVec 32 := 5#32
  let v782 : BitVec 32 := Scalar.addi c0_i32 c5_i32
  let c1_i32 : BitVec 32 := 1#32
  ⟨c0_i32, v782, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x8x32x2 : Shape := ⟨4, ![16384, 8, 32, 2]⟩
abbrev S16384x32x3 : Shape := ⟨3, ![16384, 32, 3]⟩
abbrev S16384x8x3x4 : Shape := ⟨4, ![16384, 8, 3, 4]⟩
abbrev S16384x8x32 : Shape := ⟨3, ![16384, 8, 32]⟩
abbrev S16384x8x32x1 : Shape := ⟨4, ![16384, 8, 32, 1]⟩
abbrev S_ : Shape := ⟨0, ![]⟩
abbrev S16384x8x1x4 : Shape := ⟨4, ![16384, 8, 1, 4]⟩
abbrev S16384x8x4 : Shape := ⟨3, ![16384, 8, 4]⟩
abbrev S16384x8x32x4 : Shape := ⟨4, ![16384, 8, 32, 4]⟩
abbrev S16384x8x32x1x4 : Shape := ⟨5, ![16384, 8, 32, 1, 4]⟩
abbrev S16384x8x32x2x4 : Shape := ⟨5, ![16384, 8, 32, 2, 4]⟩
abbrev S16384x8x32x1x1 : Shape := ⟨5, ![16384, 8, 32, 1, 1]⟩
abbrev S16384x32x8x2x4 : Shape := ⟨5, ![16384, 32, 8, 2, 4]⟩
abbrev S16384x32x16x4 : Shape := ⟨4, ![16384, 32, 16, 4]⟩
abbrev S16384x32x16x1 : Shape := ⟨4, ![16384, 32, 16, 1]⟩
abbrev S16384x32x16 : Shape := ⟨3, ![16384, 32, 16]⟩
abbrev S4x4 : Shape := ⟨2, ![4, 4]⟩
abbrev S1x4 : Shape := ⟨2, ![1, 4]⟩
abbrev S4 : Shape := ⟨1, ![4]⟩
abbrev S16384x32x4 : Shape := ⟨3, ![16384, 32, 4]⟩
abbrev S16384x32 : Shape := ⟨2, ![16384, 32]⟩
abbrev S16384x32x1 : Shape := ⟨3, ![16384, 32, 1]⟩
abbrev S32x3 : Shape := ⟨2, ![32, 3]⟩

abbrev nBuf : Space → Nat
  | .hbm => 656
  | .vmem => 0
  | .smem => 0
  | _ => 0

abbrev hbmTy0_0 (i : Nat) : BufTy := match i % 128 with
  | 0 => ⟨S16384x8x32x2, .f32⟩
  | 1 => ⟨S16384x32x3, .f32⟩
  | 2 => ⟨S16384x8x3x4, .f32⟩
  | 3 => ⟨S16384x8x32, .f32⟩
  | 4 => ⟨S16384x8x32x1, .f32⟩
  | 5 => ⟨S_, .f32⟩
  | 6 => ⟨S16384x8x32x1, .f32⟩
  | 7 => ⟨S16384x8x32x1, .f32⟩
  | 8 => ⟨S_, .f32⟩
  | 9 => ⟨S16384x8x32x1, .f32⟩
  | 10 => ⟨S16384x8x32x1, .f32⟩
  | 11 => ⟨S_, .f32⟩
  | 12 => ⟨S16384x8x32x1, .f32⟩
  | 13 => ⟨S16384x8x32x1, .f32⟩
  | 14 => ⟨S16384x8x32x1, .f32⟩
  | 15 => ⟨S_, .f32⟩
  | 16 => ⟨S16384x8x32x1, .f32⟩
  | 17 => ⟨S16384x8x32x1, .f32⟩
  | 18 => ⟨S_, .f32⟩
  | 19 => ⟨S16384x8x32x1, .f32⟩
  | 20 => ⟨S16384x8x32x1, .f32⟩
  | 21 => ⟨S_, .f32⟩
  | 22 => ⟨S16384x8x32x1, .f32⟩
  | 23 => ⟨S16384x8x32x1, .f32⟩
  | 24 => ⟨S16384x8x1x4, .f32⟩
  | 25 => ⟨S16384x8x4, .f32⟩
  | 26 => ⟨S16384x8x1x4, .f32⟩
  | 27 => ⟨S16384x8x1x4, .f32⟩
  | 28 => ⟨S16384x8x4, .f32⟩
  | 29 => ⟨S16384x8x1x4, .f32⟩
  | 30 => ⟨S16384x8x1x4, .f32⟩
  | 31 => ⟨S16384x8x4, .f32⟩
  | 32 => ⟨S16384x8x1x4, .f32⟩
  | 33 => ⟨S16384x8x32x4, .f32⟩
  | 34 => ⟨S16384x8x32x4, .f32⟩
  | 35 => ⟨S16384x8x32x4, .f32⟩
  | 36 => ⟨S16384x8x32x4, .f32⟩
  | 37 => ⟨S16384x8x32x4, .f32⟩
  | 38 => ⟨S16384x8x32x4, .f32⟩
  | 39 => ⟨S16384x8x32x4, .f32⟩
  | 40 => ⟨S16384x8x32x4, .f32⟩
  | 41 => ⟨S16384x8x32x4, .f32⟩
  | 42 => ⟨S16384x8x32x4, .f32⟩
  | 43 => ⟨S16384x8x32x1x4, .f32⟩
  | 44 => ⟨S16384x8x32x1x4, .f32⟩
  | 45 => ⟨S16384x8x32x2x4, .f32⟩
  | 46 => ⟨S16384x8x32x1x1, .f32⟩
  | 47 => ⟨S16384x8x32x2x4, .f32⟩
  | 48 => ⟨S16384x8x32x2x4, .f32⟩
  | 49 => ⟨S16384x32x8x2x4, .f32⟩
  | 50 => ⟨S16384x32x16x4, .f32⟩
  | 51 => ⟨S16384x32x16x1, .f32⟩
  | 52 => ⟨S16384x32x16, .f32⟩
  | 53 => ⟨S16384x32x16x1, .f32⟩
  | 54 => ⟨S16384x32x16, .f32⟩
  | 55 => ⟨S16384x32x16x1, .f32⟩
  | 56 => ⟨S16384x32x16, .f32⟩
  | 57 => ⟨S16384x32x16x1, .f32⟩
  | 58 => ⟨S16384x32x16, .f32⟩
  | 59 => ⟨S4x4, .i32⟩
  | 60 => ⟨S4x4, .i32⟩
  | 61 => ⟨S_, .i32⟩
  | 62 => ⟨S4x4, .i32⟩
  | 63 => ⟨S4x4, .i32⟩
  | 64 => ⟨S4x4, .i1⟩
  | 65 => ⟨S4x4, .f32⟩
  | 66 => ⟨S1x4, .f32⟩
  | 67 => ⟨S4, .f32⟩
  | 68 => ⟨S16384x32x4, .f32⟩
  | 69 => ⟨S1x4, .f32⟩
  | 70 => ⟨S4, .f32⟩
  | 71 => ⟨S16384x32x4, .f32⟩
  | 72 => ⟨S1x4, .f32⟩
  | 73 => ⟨S4, .f32⟩
  | 74 => ⟨S16384x32x4, .f32⟩
  | 75 => ⟨S1x4, .f32⟩
  | 76 => ⟨S4, .f32⟩
  | 77 => ⟨S16384x32x4, .f32⟩
  | 78 => ⟨S_, .i32⟩
  | 79 => ⟨S_, .i32⟩
  | 80 => ⟨S_, .i32⟩
  | 81 => ⟨S_, .i32⟩
  | 82 => ⟨S16384x32x16, .f32⟩
  | 83 => ⟨S16384x32x16, .f32⟩
  | 84 => ⟨S16384x32x16, .f32⟩
  | 85 => ⟨S16384x32x16, .f32⟩
  | 86 => ⟨S16384x32x4, .f32⟩
  | 87 => ⟨S16384x32x4, .f32⟩
  | 88 => ⟨S16384x32x4, .f32⟩
  | 89 => ⟨S16384x32x4, .f32⟩
  | 90 => ⟨S_, .i32⟩
  | 91 => ⟨S_, .i1⟩
  | 92 => ⟨S_, .i32⟩
  | 93 => ⟨S_, .i32⟩
  | 94 => ⟨S16384x32x16, .f32⟩
  | 95 => ⟨S_, .f32⟩
  | 96 => ⟨S16384x32, .f32⟩
  | 97 => ⟨S16384x32x16, .f32⟩
  | 98 => ⟨S_, .f32⟩
  | 99 => ⟨S16384x32, .f32⟩
  | 100 => ⟨S16384x32x16, .f32⟩
  | 101 => ⟨S_, .f32⟩
  | 102 => ⟨S16384x32, .f32⟩
  | 103 => ⟨S16384x32, .f32⟩
  | 104 => ⟨S_, .f32⟩
  | 105 => ⟨S16384x32, .f32⟩
  | 106 => ⟨S16384x32, .f32⟩
  | 107 => ⟨S16384x32, .f32⟩
  | 108 => ⟨S_, .f32⟩
  | 109 => ⟨S16384x32, .f32⟩
  | 110 => ⟨S16384x32, .i1⟩
  | 111 => ⟨S_, .f32⟩
  | 112 => ⟨S_, .f32⟩
  | 113 => ⟨S16384x32, .f32⟩
  | 114 => ⟨S16384x32, .f32⟩
  | 115 => ⟨S16384x32, .f32⟩
  | 116 => ⟨S16384x32, .f32⟩
  | 117 => ⟨S16384x32, .f32⟩
  | 118 => ⟨S_, .f32⟩
  | 119 => ⟨S16384x32, .f32⟩
  | 120 => ⟨S16384x32, .f32⟩
  | 121 => ⟨S16384x32, .f32⟩
  | 122 => ⟨S16384x32, .f32⟩
  | 123 => ⟨S16384x32, .f32⟩
  | 124 => ⟨S16384x32, .f32⟩
  | 125 => ⟨S16384x32, .f32⟩
  | 126 => ⟨S16384x32, .f32⟩
  | 127 => ⟨S_, .f32⟩
  | _ => ⟨S16384x8x32x2, .f32⟩

abbrev hbmTy0_1 (i : Nat) : BufTy := match i % 128 with
  | 0 => ⟨S16384x32, .f32⟩
  | 1 => ⟨S16384x32, .f32⟩
  | 2 => ⟨S16384x32, .i1⟩
  | 3 => ⟨S_, .f32⟩
  | 4 => ⟨S_, .f32⟩
  | 5 => ⟨S16384x32, .f32⟩
  | 6 => ⟨S16384x32, .f32⟩
  | 7 => ⟨S16384x32x1, .f32⟩
  | 8 => ⟨S16384x32x1, .f32⟩
  | 9 => ⟨S_, .f32⟩
  | 10 => ⟨S16384x32x1, .f32⟩
  | 11 => ⟨S16384x32x1, .f32⟩
  | 12 => ⟨S16384x32x1, .f32⟩
  | 13 => ⟨S16384x32x1, .f32⟩
  | 14 => ⟨S16384x32x16, .f32⟩
  | 15 => ⟨S16384x32x16, .f32⟩
  | 16 => ⟨S16384x32x16, .f32⟩
  | 17 => ⟨S16384x32x16, .f32⟩
  | 18 => ⟨S16384x32x16, .f32⟩
  | 19 => ⟨S16384x32x16, .f32⟩
  | 20 => ⟨S16384x32x16, .f32⟩
  | 21 => ⟨S16384x32x16, .f32⟩
  | 22 => ⟨S16384x32x16, .f32⟩
  | 23 => ⟨S16384x32x16, .f32⟩
  | 24 => ⟨S16384x32x4, .f32⟩
  | 25 => ⟨S16384x32x4, .f32⟩
  | 26 => ⟨S16384x32x4, .f32⟩
  | 27 => ⟨S16384x32x4, .f32⟩
  | 28 => ⟨S16384x32x4, .f32⟩
  | 29 => ⟨S16384x32x4, .f32⟩
  | 30 => ⟨S16384x32x4, .f32⟩
  | 31 => ⟨S16384x32x4, .f32⟩
  | 32 => ⟨S16384x32x4, .f32⟩
  | 33 => ⟨S16384x32x4, .f32⟩
  | 34 => ⟨S16384x32x16, .f32⟩
  | 35 => ⟨S_, .f32⟩
  | 36 => ⟨S16384x32, .f32⟩
  | 37 => ⟨S16384x32x16, .f32⟩
  | 38 => ⟨S_, .f32⟩
  | 39 => ⟨S16384x32, .f32⟩
  | 40 => ⟨S16384x32x16, .f32⟩
  | 41 => ⟨S_, .f32⟩
  | 42 => ⟨S16384x32, .f32⟩
  | 43 => ⟨S16384x32, .f32⟩
  | 44 => ⟨S_, .f32⟩
  | 45 => ⟨S16384x32, .f32⟩
  | 46 => ⟨S16384x32, .f32⟩
  | 47 => ⟨S16384x32, .f32⟩
  | 48 => ⟨S_, .f32⟩
  | 49 => ⟨S16384x32, .f32⟩
  | 50 => ⟨S16384x32, .i1⟩
  | 51 => ⟨S_, .f32⟩
  | 52 => ⟨S_, .f32⟩
  | 53 => ⟨S16384x32, .f32⟩
  | 54 => ⟨S16384x32, .f32⟩
  | 55 => ⟨S16384x32, .f32⟩
  | 56 => ⟨S16384x32, .f32⟩
  | 57 => ⟨S16384x32, .f32⟩
  | 58 => ⟨S_, .f32⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S_, .f32⟩
  | 68 => ⟨S16384x32, .f32⟩
  | 69 => ⟨S16384x32, .f32⟩
  | 70 => ⟨S16384x32, .i1⟩
  | 71 => ⟨S_, .f32⟩
  | 72 => ⟨S_, .f32⟩
  | 73 => ⟨S16384x32, .f32⟩
  | 74 => ⟨S16384x32, .f32⟩
  | 75 => ⟨S16384x32x1, .f32⟩
  | 76 => ⟨S16384x32x1, .f32⟩
  | 77 => ⟨S_, .f32⟩
  | 78 => ⟨S16384x32x1, .f32⟩
  | 79 => ⟨S16384x32x1, .f32⟩
  | 80 => ⟨S16384x32x1, .f32⟩
  | 81 => ⟨S16384x32x1, .f32⟩
  | 82 => ⟨S16384x32x16, .f32⟩
  | 83 => ⟨S16384x32x16, .f32⟩
  | 84 => ⟨S16384x32x16, .f32⟩
  | 85 => ⟨S16384x32x16, .f32⟩
  | 86 => ⟨S16384x32x16, .f32⟩
  | 87 => ⟨S16384x32x16, .f32⟩
  | 88 => ⟨S16384x32x16, .f32⟩
  | 89 => ⟨S16384x32x16, .f32⟩
  | 90 => ⟨S16384x32x16, .f32⟩
  | 91 => ⟨S16384x32x16, .f32⟩
  | 92 => ⟨S16384x32x4, .f32⟩
  | 93 => ⟨S16384x32x4, .f32⟩
  | 94 => ⟨S16384x32x4, .f32⟩
  | 95 => ⟨S16384x32x4, .f32⟩
  | 96 => ⟨S16384x32x4, .f32⟩
  | 97 => ⟨S16384x32x4, .f32⟩
  | 98 => ⟨S16384x32x4, .f32⟩
  | 99 => ⟨S16384x32x4, .f32⟩
  | 100 => ⟨S16384x32x4, .f32⟩
  | 101 => ⟨S16384x32x4, .f32⟩
  | 102 => ⟨S16384x32x16, .f32⟩
  | 103 => ⟨S_, .f32⟩
  | 104 => ⟨S16384x32, .f32⟩
  | 105 => ⟨S16384x32x16, .f32⟩
  | 106 => ⟨S_, .f32⟩
  | 107 => ⟨S16384x32, .f32⟩
  | 108 => ⟨S16384x32x16, .f32⟩
  | 109 => ⟨S_, .f32⟩
  | 110 => ⟨S16384x32, .f32⟩
  | 111 => ⟨S16384x32, .f32⟩
  | 112 => ⟨S_, .f32⟩
  | 113 => ⟨S16384x32, .f32⟩
  | 114 => ⟨S16384x32, .f32⟩
  | 115 => ⟨S16384x32, .f32⟩
  | 116 => ⟨S_, .f32⟩
  | 117 => ⟨S16384x32, .f32⟩
  | 118 => ⟨S16384x32, .i1⟩
  | 119 => ⟨S_, .f32⟩
  | 120 => ⟨S_, .f32⟩
  | 121 => ⟨S16384x32, .f32⟩
  | 122 => ⟨S16384x32, .f32⟩
  | 123 => ⟨S16384x32, .f32⟩
  | 124 => ⟨S16384x32, .f32⟩
  | 125 => ⟨S16384x32, .f32⟩
  | 126 => ⟨S_, .f32⟩
  | 127 => ⟨S16384x32, .f32⟩
  | _ => ⟨S16384x8x32x2, .f32⟩

abbrev hbmTy0_2 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S16384x32, .f32⟩
  | 5 => ⟨S16384x32, .f32⟩
  | 6 => ⟨S16384x32, .f32⟩
  | 7 => ⟨S_, .f32⟩
  | 8 => ⟨S16384x32, .f32⟩
  | 9 => ⟨S16384x32, .f32⟩
  | 10 => ⟨S16384x32, .i1⟩
  | 11 => ⟨S_, .f32⟩
  | 12 => ⟨S_, .f32⟩
  | 13 => ⟨S16384x32, .f32⟩
  | 14 => ⟨S16384x32, .f32⟩
  | 15 => ⟨S16384x32x1, .f32⟩
  | 16 => ⟨S16384x32x1, .f32⟩
  | 17 => ⟨S_, .f32⟩
  | 18 => ⟨S16384x32x1, .f32⟩
  | 19 => ⟨S16384x32x1, .f32⟩
  | 20 => ⟨S16384x32x1, .f32⟩
  | 21 => ⟨S16384x32x1, .f32⟩
  | 22 => ⟨S16384x32x16, .f32⟩
  | 23 => ⟨S16384x32x16, .f32⟩
  | 24 => ⟨S16384x32x16, .f32⟩
  | 25 => ⟨S16384x32x16, .f32⟩
  | 26 => ⟨S16384x32x16, .f32⟩
  | 27 => ⟨S16384x32x16, .f32⟩
  | 28 => ⟨S16384x32x16, .f32⟩
  | 29 => ⟨S16384x32x16, .f32⟩
  | 30 => ⟨S16384x32x16, .f32⟩
  | 31 => ⟨S16384x32x16, .f32⟩
  | 32 => ⟨S16384x32x4, .f32⟩
  | 33 => ⟨S16384x32x4, .f32⟩
  | 34 => ⟨S16384x32x4, .f32⟩
  | 35 => ⟨S16384x32x4, .f32⟩
  | 36 => ⟨S16384x32x4, .f32⟩
  | 37 => ⟨S16384x32x4, .f32⟩
  | 38 => ⟨S16384x32x4, .f32⟩
  | 39 => ⟨S16384x32x4, .f32⟩
  | 40 => ⟨S16384x32x4, .f32⟩
  | 41 => ⟨S16384x32x4, .f32⟩
  | 42 => ⟨S16384x32x16, .f32⟩
  | 43 => ⟨S_, .f32⟩
  | 44 => ⟨S16384x32, .f32⟩
  | 45 => ⟨S16384x32x16, .f32⟩
  | 46 => ⟨S_, .f32⟩
  | 47 => ⟨S16384x32, .f32⟩
  | 48 => ⟨S16384x32x16, .f32⟩
  | 49 => ⟨S_, .f32⟩
  | 50 => ⟨S16384x32, .f32⟩
  | 51 => ⟨S16384x32, .f32⟩
  | 52 => ⟨S_, .f32⟩
  | 53 => ⟨S16384x32, .f32⟩
  | 54 => ⟨S16384x32, .f32⟩
  | 55 => ⟨S16384x32, .f32⟩
  | 56 => ⟨S_, .f32⟩
  | 57 => ⟨S16384x32, .f32⟩
  | 58 => ⟨S16384x32, .i1⟩
  | 59 => ⟨S_, .f32⟩
  | 60 => ⟨S_, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S_, .f32⟩
  | 67 => ⟨S16384x32, .f32⟩
  | 68 => ⟨S16384x32, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S_, .f32⟩
  | 76 => ⟨S16384x32, .f32⟩
  | 77 => ⟨S16384x32, .f32⟩
  | 78 => ⟨S16384x32, .i1⟩
  | 79 => ⟨S_, .f32⟩
  | 80 => ⟨S_, .f32⟩
  | 81 => ⟨S16384x32, .f32⟩
  | 82 => ⟨S16384x32, .f32⟩
  | 83 => ⟨S16384x32x1, .f32⟩
  | 84 => ⟨S16384x32x1, .f32⟩
  | 85 => ⟨S_, .f32⟩
  | 86 => ⟨S16384x32x1, .f32⟩
  | 87 => ⟨S16384x32x1, .f32⟩
  | 88 => ⟨S16384x32x1, .f32⟩
  | 89 => ⟨S16384x32x1, .f32⟩
  | 90 => ⟨S16384x32x16, .f32⟩
  | 91 => ⟨S16384x32x16, .f32⟩
  | 92 => ⟨S16384x32x16, .f32⟩
  | 93 => ⟨S16384x32x16, .f32⟩
  | 94 => ⟨S16384x32x16, .f32⟩
  | 95 => ⟨S16384x32x16, .f32⟩
  | 96 => ⟨S16384x32x16, .f32⟩
  | 97 => ⟨S16384x32x16, .f32⟩
  | 98 => ⟨S16384x32x16, .f32⟩
  | 99 => ⟨S16384x32x16, .f32⟩
  | 100 => ⟨S16384x32x4, .f32⟩
  | 101 => ⟨S16384x32x4, .f32⟩
  | 102 => ⟨S16384x32x4, .f32⟩
  | 103 => ⟨S16384x32x4, .f32⟩
  | 104 => ⟨S16384x32x4, .f32⟩
  | 105 => ⟨S16384x32x4, .f32⟩
  | 106 => ⟨S16384x32x4, .f32⟩
  | 107 => ⟨S16384x32x4, .f32⟩
  | 108 => ⟨S16384x32x4, .f32⟩
  | 109 => ⟨S16384x32x4, .f32⟩
  | 110 => ⟨S16384x32x16, .f32⟩
  | 111 => ⟨S_, .f32⟩
  | 112 => ⟨S16384x32, .f32⟩
  | 113 => ⟨S16384x32x16, .f32⟩
  | 114 => ⟨S_, .f32⟩
  | 115 => ⟨S16384x32, .f32⟩
  | 116 => ⟨S16384x32x16, .f32⟩
  | 117 => ⟨S_, .f32⟩
  | 118 => ⟨S16384x32, .f32⟩
  | 119 => ⟨S16384x32, .f32⟩
  | 120 => ⟨S_, .f32⟩
  | 121 => ⟨S16384x32, .f32⟩
  | 122 => ⟨S16384x32, .f32⟩
  | 123 => ⟨S16384x32, .f32⟩
  | 124 => ⟨S_, .f32⟩
  | 125 => ⟨S16384x32, .f32⟩
  | 126 => ⟨S16384x32, .i1⟩
  | 127 => ⟨S_, .f32⟩
  | _ => ⟨S16384x8x32x2, .f32⟩

abbrev hbmTy0_3 (i : Nat) : BufTy := match i % 128 with
  | 0 => ⟨S_, .f32⟩
  | 1 => ⟨S16384x32, .f32⟩
  | 2 => ⟨S16384x32, .f32⟩
  | 3 => ⟨S16384x32, .f32⟩
  | 4 => ⟨S16384x32, .f32⟩
  | 5 => ⟨S16384x32, .f32⟩
  | 6 => ⟨S_, .f32⟩
  | 7 => ⟨S16384x32, .f32⟩
  | 8 => ⟨S16384x32, .f32⟩
  | 9 => ⟨S16384x32, .f32⟩
  | 10 => ⟨S16384x32, .f32⟩
  | 11 => ⟨S16384x32, .f32⟩
  | 12 => ⟨S16384x32, .f32⟩
  | 13 => ⟨S16384x32, .f32⟩
  | 14 => ⟨S16384x32, .f32⟩
  | 15 => ⟨S_, .f32⟩
  | 16 => ⟨S16384x32, .f32⟩
  | 17 => ⟨S16384x32, .f32⟩
  | 18 => ⟨S16384x32, .i1⟩
  | 19 => ⟨S_, .f32⟩
  | 20 => ⟨S_, .f32⟩
  | 21 => ⟨S16384x32, .f32⟩
  | 22 => ⟨S16384x32, .f32⟩
  | 23 => ⟨S16384x32x1, .f32⟩
  | 24 => ⟨S16384x32x1, .f32⟩
  | 25 => ⟨S_, .f32⟩
  | 26 => ⟨S16384x32x1, .f32⟩
  | 27 => ⟨S16384x32x1, .f32⟩
  | 28 => ⟨S16384x32x1, .f32⟩
  | 29 => ⟨S16384x32x1, .f32⟩
  | 30 => ⟨S16384x32x16, .f32⟩
  | 31 => ⟨S16384x32x16, .f32⟩
  | 32 => ⟨S16384x32x16, .f32⟩
  | 33 => ⟨S16384x32x16, .f32⟩
  | 34 => ⟨S16384x32x16, .f32⟩
  | 35 => ⟨S16384x32x16, .f32⟩
  | 36 => ⟨S16384x32x16, .f32⟩
  | 37 => ⟨S16384x32x16, .f32⟩
  | 38 => ⟨S16384x32x16, .f32⟩
  | 39 => ⟨S16384x32x16, .f32⟩
  | 40 => ⟨S16384x32x4, .f32⟩
  | 41 => ⟨S16384x32x4, .f32⟩
  | 42 => ⟨S16384x32x4, .f32⟩
  | 43 => ⟨S16384x32x4, .f32⟩
  | 44 => ⟨S16384x32x4, .f32⟩
  | 45 => ⟨S16384x32x4, .f32⟩
  | 46 => ⟨S16384x32x4, .f32⟩
  | 47 => ⟨S16384x32x4, .f32⟩
  | 48 => ⟨S16384x32x4, .f32⟩
  | 49 => ⟨S16384x32x4, .f32⟩
  | 50 => ⟨S16384x32x16, .f32⟩
  | 51 => ⟨S_, .f32⟩
  | 52 => ⟨S16384x32, .f32⟩
  | 53 => ⟨S16384x32x16, .f32⟩
  | 54 => ⟨S_, .f32⟩
  | 55 => ⟨S16384x32, .f32⟩
  | 56 => ⟨S16384x32x16, .f32⟩
  | 57 => ⟨S_, .f32⟩
  | 58 => ⟨S16384x32, .f32⟩
  | 59 => ⟨S16384x32, .f32⟩
  | 60 => ⟨S_, .f32⟩
  | 61 => ⟨S16384x32, .f32⟩
  | 62 => ⟨S16384x32, .f32⟩
  | 63 => ⟨S16384x32, .f32⟩
  | 64 => ⟨S_, .f32⟩
  | 65 => ⟨S16384x32, .f32⟩
  | 66 => ⟨S16384x32, .i1⟩
  | 67 => ⟨S_, .f32⟩
  | 68 => ⟨S_, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S_, .f32⟩
  | 75 => ⟨S16384x32, .f32⟩
  | 76 => ⟨S16384x32, .f32⟩
  | 77 => ⟨S16384x32, .f32⟩
  | 78 => ⟨S16384x32, .f32⟩
  | 79 => ⟨S16384x32, .f32⟩
  | 80 => ⟨S16384x32, .f32⟩
  | 81 => ⟨S16384x32, .f32⟩
  | 82 => ⟨S16384x32, .f32⟩
  | 83 => ⟨S_, .f32⟩
  | 84 => ⟨S16384x32, .f32⟩
  | 85 => ⟨S16384x32, .f32⟩
  | 86 => ⟨S16384x32, .i1⟩
  | 87 => ⟨S_, .f32⟩
  | 88 => ⟨S_, .f32⟩
  | 89 => ⟨S16384x32, .f32⟩
  | 90 => ⟨S16384x32, .f32⟩
  | 91 => ⟨S16384x32x1, .f32⟩
  | 92 => ⟨S16384x32x1, .f32⟩
  | 93 => ⟨S_, .f32⟩
  | 94 => ⟨S16384x32x1, .f32⟩
  | 95 => ⟨S16384x32x1, .f32⟩
  | 96 => ⟨S16384x32x1, .f32⟩
  | 97 => ⟨S16384x32x1, .f32⟩
  | 98 => ⟨S16384x32x16, .f32⟩
  | 99 => ⟨S16384x32x16, .f32⟩
  | 100 => ⟨S16384x32x16, .f32⟩
  | 101 => ⟨S16384x32x16, .f32⟩
  | 102 => ⟨S16384x32x16, .f32⟩
  | 103 => ⟨S16384x32x16, .f32⟩
  | 104 => ⟨S16384x32x16, .f32⟩
  | 105 => ⟨S16384x32x16, .f32⟩
  | 106 => ⟨S16384x32x16, .f32⟩
  | 107 => ⟨S16384x32x16, .f32⟩
  | 108 => ⟨S16384x32x4, .f32⟩
  | 109 => ⟨S16384x32x4, .f32⟩
  | 110 => ⟨S16384x32x4, .f32⟩
  | 111 => ⟨S16384x32x4, .f32⟩
  | 112 => ⟨S16384x32x4, .f32⟩
  | 113 => ⟨S16384x32x4, .f32⟩
  | 114 => ⟨S16384x32x4, .f32⟩
  | 115 => ⟨S16384x32x4, .f32⟩
  | 116 => ⟨S16384x32x4, .f32⟩
  | 117 => ⟨S16384x32x4, .f32⟩
  | 118 => ⟨S_, .i32⟩
  | 119 => ⟨S_, .i32⟩
  | 120 => ⟨S16384x32x16, .f32⟩
  | 121 => ⟨S_, .f32⟩
  | 122 => ⟨S16384x32, .f32⟩
  | 123 => ⟨S16384x32x1, .f32⟩
  | 124 => ⟨S16384x32x16, .f32⟩
  | 125 => ⟨S_, .f32⟩
  | 126 => ⟨S16384x32, .f32⟩
  | 127 => ⟨S16384x32x1, .f32⟩
  | _ => ⟨S16384x8x32x2, .f32⟩

abbrev hbmTy0_4 (i : Nat) : BufTy := match i % 128 with
  | 0 => ⟨S16384x32x16, .f32⟩
  | 1 => ⟨S_, .f32⟩
  | 2 => ⟨S16384x32, .f32⟩
  | 3 => ⟨S16384x32x1, .f32⟩
  | 4 => ⟨S16384x32x16, .f32⟩
  | 5 => ⟨S_, .f32⟩
  | 6 => ⟨S16384x32, .f32⟩
  | 7 => ⟨S16384x32x1, .f32⟩
  | 8 => ⟨S16384x32x1, .i1⟩
  | 9 => ⟨S16384x32x4, .i1⟩
  | 10 => ⟨S16384x32x4, .f32⟩
  | 11 => ⟨S16384x32x1, .i1⟩
  | 12 => ⟨S16384x32x16, .i1⟩
  | 13 => ⟨S16384x32x16, .f32⟩
  | 14 => ⟨S16384x32x1, .f32⟩
  | 15 => ⟨S16384x32x1, .i1⟩
  | 16 => ⟨S16384x32x4, .i1⟩
  | 17 => ⟨S16384x32x4, .f32⟩
  | 18 => ⟨S16384x32x1, .i1⟩
  | 19 => ⟨S16384x32x16, .i1⟩
  | 20 => ⟨S16384x32x16, .f32⟩
  | 21 => ⟨S16384x32x1, .f32⟩
  | 22 => ⟨S16384x32x1, .i1⟩
  | 23 => ⟨S16384x32x4, .i1⟩
  | 24 => ⟨S16384x32x4, .f32⟩
  | 25 => ⟨S16384x32x1, .i1⟩
  | 26 => ⟨S16384x32x16, .i1⟩
  | 27 => ⟨S16384x32x16, .f32⟩
  | 28 => ⟨S16384x32x1, .f32⟩
  | 29 => ⟨S16384x32x16, .f32⟩
  | 30 => ⟨S_, .f32⟩
  | 31 => ⟨S16384x32, .f32⟩
  | 32 => ⟨S16384x32x1, .f32⟩
  | 33 => ⟨S16384x32x1, .f32⟩
  | 34 => ⟨S16384x32x1, .f32⟩
  | 35 => ⟨S16384x32x1, .i1⟩
  | 36 => ⟨S_, .f32⟩
  | 37 => ⟨S_, .f32⟩
  | 38 => ⟨S16384x32x1, .f32⟩
  | 39 => ⟨S16384x32x1, .f32⟩
  | 40 => ⟨S16384x32x1, .f32⟩
  | 41 => ⟨S_, .f32⟩
  | 42 => ⟨S16384x32x1, .f32⟩
  | 43 => ⟨S16384x32x1, .i1⟩
  | 44 => ⟨S_, .f32⟩
  | 45 => ⟨S_, .f32⟩
  | 46 => ⟨S16384x32x1, .f32⟩
  | 47 => ⟨S16384x32x1, .f32⟩
  | 48 => ⟨S16384x32x4, .f32⟩
  | 49 => ⟨S16384x32x4, .f32⟩
  | 50 => ⟨S16384x32x4, .f32⟩
  | 51 => ⟨S16384x32x16, .f32⟩
  | 52 => ⟨S_, .f32⟩
  | 53 => ⟨S16384x32, .f32⟩
  | 54 => ⟨S16384x32x1, .f32⟩
  | 55 => ⟨S16384x32x1, .f32⟩
  | 56 => ⟨S16384x32x1, .f32⟩
  | 57 => ⟨S16384x32x1, .i1⟩
  | 58 => ⟨S_, .f32⟩
  | 59 => ⟨S_, .f32⟩
  | 60 => ⟨S16384x32x1, .f32⟩
  | 61 => ⟨S16384x32x1, .f32⟩
  | 62 => ⟨S16384x32x1, .f32⟩
  | 63 => ⟨S_, .f32⟩
  | 64 => ⟨S16384x32x1, .f32⟩
  | 65 => ⟨S16384x32x1, .i1⟩
  | 66 => ⟨S_, .f32⟩
  | 67 => ⟨S_, .f32⟩
  | 68 => ⟨S16384x32x1, .f32⟩
  | 69 => ⟨S16384x32x1, .f32⟩
  | 70 => ⟨S16384x32x4, .f32⟩
  | 71 => ⟨S16384x32x4, .f32⟩
  | 72 => ⟨S16384x32x4, .f32⟩
  | 73 => ⟨S16384x32x16, .f32⟩
  | 74 => ⟨S_, .f32⟩
  | 75 => ⟨S16384x32, .f32⟩
  | 76 => ⟨S16384x32x1, .f32⟩
  | 77 => ⟨S16384x32x1, .f32⟩
  | 78 => ⟨S16384x32x1, .f32⟩
  | 79 => ⟨S16384x32x1, .i1⟩
  | 80 => ⟨S_, .f32⟩
  | 81 => ⟨S_, .f32⟩
  | 82 => ⟨S16384x32x1, .f32⟩
  | 83 => ⟨S16384x32x1, .f32⟩
  | 84 => ⟨S16384x32x1, .f32⟩
  | 85 => ⟨S_, .f32⟩
  | 86 => ⟨S16384x32x1, .f32⟩
  | 87 => ⟨S16384x32x1, .i1⟩
  | 88 => ⟨S_, .f32⟩
  | 89 => ⟨S_, .f32⟩
  | 90 => ⟨S16384x32x1, .f32⟩
  | 91 => ⟨S16384x32x1, .f32⟩
  | 92 => ⟨S16384x32x4, .f32⟩
  | 93 => ⟨S16384x32x4, .f32⟩
  | 94 => ⟨S16384x32x4, .f32⟩
  | 95 => ⟨S16384x32x16, .f32⟩
  | 96 => ⟨S_, .f32⟩
  | 97 => ⟨S16384x32, .f32⟩
  | 98 => ⟨S16384x32x1, .f32⟩
  | 99 => ⟨S16384x32x1, .f32⟩
  | 100 => ⟨S16384x32x1, .f32⟩
  | 101 => ⟨S16384x32x1, .i1⟩
  | 102 => ⟨S_, .f32⟩
  | 103 => ⟨S_, .f32⟩
  | 104 => ⟨S16384x32x1, .f32⟩
  | 105 => ⟨S16384x32x1, .f32⟩
  | 106 => ⟨S16384x32x1, .f32⟩
  | 107 => ⟨S_, .f32⟩
  | 108 => ⟨S16384x32x1, .f32⟩
  | 109 => ⟨S16384x32x1, .i1⟩
  | 110 => ⟨S_, .f32⟩
  | 111 => ⟨S_, .f32⟩
  | 112 => ⟨S16384x32x1, .f32⟩
  | 113 => ⟨S16384x32x1, .f32⟩
  | 114 => ⟨S16384x32x4, .f32⟩
  | 115 => ⟨S16384x32x4, .f32⟩
  | 116 => ⟨S16384x32x4, .f32⟩
  | 117 => ⟨S16384x32x3, .f32⟩
  | 118 => ⟨S16384x32x1, .f32⟩
  | 119 => ⟨S_, .f32⟩
  | 120 => ⟨S16384x32x1, .f32⟩
  | 121 => ⟨S16384x32x1, .f32⟩
  | 122 => ⟨S16384x32x3, .f32⟩
  | 123 => ⟨S16384x32x3, .f32⟩
  | 124 => ⟨S16384x32x3, .f32⟩
  | 125 => ⟨S16384x32x3, .f32⟩
  | 126 => ⟨S_, .f32⟩
  | 127 => ⟨S16384x32x3, .f32⟩
  | _ => ⟨S16384x8x32x2, .f32⟩

abbrev hbmTy0_5 (i : Nat) : BufTy := match i % 128 with
  | 0 => ⟨S16384x32x3, .i1⟩
  | 1 => ⟨S_, .f32⟩
  | 2 => ⟨S16384x32x3, .f32⟩
  | 3 => ⟨S16384x32x3, .f32⟩
  | 4 => ⟨S16384x32x3, .f32⟩
  | 5 => ⟨S_, .f32⟩
  | 6 => ⟨S16384x32x3, .f32⟩
  | 7 => ⟨S16384x32x3, .f32⟩
  | 8 => ⟨S16384x32x3, .f32⟩
  | 9 => ⟨S_, .f32⟩
  | 10 => ⟨S32x3, .f32⟩
  | 11 => ⟨S_, .f32⟩
  | 12 => ⟨S32x3, .f32⟩
  | 13 => ⟨S32x3, .f32⟩
  | 14 => ⟨S_, .f32⟩
  | 15 => ⟨S_, .f32⟩
  | _ => ⟨S16384x8x32x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x8x32x2, .f32⟩

abbrev bufTy : (tb : Table) → Fin (tcTables nBuf tb) → BufTy
  | .hbm, ⟨i, _⟩ => hbmTy i
  | _, _ => ⟨S16384x8x32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_c_5 : Ref sig .tc := ⟨.hbm, 78, rfl⟩
abbrev main_c_6 : Ref sig .tc := ⟨.hbm, 79, rfl⟩
abbrev main_v67_0 : Ref sig .tc := ⟨.hbm, 80, rfl⟩
abbrev main_v67_1 : Ref sig .tc := ⟨.hbm, 81, rfl⟩
abbrev main_v67_2 : Ref sig .tc := ⟨.hbm, 82, rfl⟩
abbrev main_v67_3 : Ref sig .tc := ⟨.hbm, 83, rfl⟩
abbrev main_v67_4 : Ref sig .tc := ⟨.hbm, 84, rfl⟩
abbrev main_v67_5 : Ref sig .tc := ⟨.hbm, 85, rfl⟩
abbrev main_v67_6 : Ref sig .tc := ⟨.hbm, 86, rfl⟩
abbrev main_v67_7 : Ref sig .tc := ⟨.hbm, 87, rfl⟩
abbrev main_v67_8 : Ref sig .tc := ⟨.hbm, 88, rfl⟩
abbrev main_v67_9 : Ref sig .tc := ⟨.hbm, 89, rfl⟩
abbrev main_while0c_c_43 : Ref sig .tc := ⟨.hbm, 90, rfl⟩
abbrev main_while0c_v171 : Ref sig .tc := ⟨.hbm, 91, rfl⟩
abbrev main_while0b_c_43 : Ref sig .tc := ⟨.hbm, 92, rfl⟩
abbrev main_while0b_v171 : Ref sig .tc := ⟨.hbm, 93, rfl⟩
abbrev main_while0b_v172 : Ref sig .tc := ⟨.hbm, 94, rfl⟩
abbrev main_while0b_cst_44 : Ref sig .tc := ⟨.hbm, 95, rfl⟩
abbrev main_while0b_v173 : Ref sig .tc := ⟨.hbm, 96, rfl⟩
abbrev main_while0b_v174 : Ref sig .tc := ⟨.hbm, 97, rfl⟩
abbrev main_while0b_cst_45 : Ref sig .tc := ⟨.hbm, 98, rfl⟩
abbrev main_while0b_v175 : Ref sig .tc := ⟨.hbm, 99, rfl⟩
abbrev main_while0b_v176 : Ref sig .tc := ⟨.hbm, 100, rfl⟩
abbrev main_while0b_cst_46 : Ref sig .tc := ⟨.hbm, 101, rfl⟩
abbrev main_while0b_v177 : Ref sig .tc := ⟨.hbm, 102, rfl⟩
abbrev main_while0b_v178 : Ref sig .tc := ⟨.hbm, 103, rfl⟩
abbrev main_while0b_cst_47 : Ref sig .tc := ⟨.hbm, 104, rfl⟩
abbrev main_while0b_v179 : Ref sig .tc := ⟨.hbm, 105, rfl⟩
abbrev main_while0b_v180 : Ref sig .tc := ⟨.hbm, 106, rfl⟩
abbrev main_while0b_v181 : Ref sig .tc := ⟨.hbm, 107, rfl⟩
abbrev main_while0b_cst_48 : Ref sig .tc := ⟨.hbm, 108, rfl⟩
abbrev main_while0b_v182 : Ref sig .tc := ⟨.hbm, 109, rfl⟩
abbrev main_while0b_v183 : Ref sig .tc := ⟨.hbm, 110, rfl⟩
abbrev main_while0b_cst_49 : Ref sig .tc := ⟨.hbm, 111, rfl⟩
abbrev main_while0b_cst_50 : Ref sig .tc := ⟨.hbm, 112, rfl⟩
abbrev main_while0b_call0_v0 : Ref sig .tc := ⟨.hbm, 113, rfl⟩
abbrev main_while0b_call0_v1 : Ref sig .tc := ⟨.hbm, 114, rfl⟩
abbrev main_while0b_v184 : Ref sig .tc := ⟨.hbm, 115, rfl⟩
abbrev main_while0b_v185 : Ref sig .tc := ⟨.hbm, 116, rfl⟩
abbrev main_while0b_v186 : Ref sig .tc := ⟨.hbm, 117, rfl⟩
abbrev main_while0b_cst_51 : Ref sig .tc := ⟨.hbm, 118, rfl⟩
abbrev main_while0b_v187 : Ref sig .tc := ⟨.hbm, 119, rfl⟩
abbrev main_while0b_v188 : Ref sig .tc := ⟨.hbm, 120, rfl⟩
abbrev main_while0b_v189 : Ref sig .tc := ⟨.hbm, 121, rfl⟩
abbrev main_while0b_v190 : Ref sig .tc := ⟨.hbm, 122, rfl⟩
abbrev main_while0b_v191 : Ref sig .tc := ⟨.hbm, 123, rfl⟩
abbrev main_while0b_v192 : Ref sig .tc := ⟨.hbm, 124, rfl⟩
abbrev main_while0b_v193 : Ref sig .tc := ⟨.hbm, 125, rfl⟩
abbrev main_while0b_v194 : Ref sig .tc := ⟨.hbm, 126, rfl⟩
abbrev main_while0b_cst_52 : Ref sig .tc := ⟨.hbm, 127, rfl⟩
abbrev main_while0b_v195 : Ref sig .tc := ⟨.hbm, 128, rfl⟩
abbrev main_while0b_v196 : Ref sig .tc := ⟨.hbm, 129, rfl⟩
abbrev main_while0b_v197 : Ref sig .tc := ⟨.hbm, 130, rfl⟩
abbrev main_while0b_cst_53 : Ref sig .tc := ⟨.hbm, 131, rfl⟩
abbrev main_while0b_call1_v0 : Ref sig .tc := ⟨.hbm, 132, rfl⟩
abbrev main_while0b_call1_v1 : Ref sig .tc := ⟨.hbm, 133, rfl⟩
abbrev main_while0b_v198 : Ref sig .tc := ⟨.hbm, 134, rfl⟩
abbrev main_while0b_v199 : Ref sig .tc := ⟨.hbm, 135, rfl⟩
abbrev main_while0b_v200 : Ref sig .tc := ⟨.hbm, 136, rfl⟩
abbrev main_while0b_cst_54 : Ref sig .tc := ⟨.hbm, 137, rfl⟩
abbrev main_while0b_v201 : Ref sig .tc := ⟨.hbm, 138, rfl⟩
abbrev main_while0b_v202 : Ref sig .tc := ⟨.hbm, 139, rfl⟩
abbrev main_while0b_v203 : Ref sig .tc := ⟨.hbm, 140, rfl⟩
abbrev main_while0b_v204 : Ref sig .tc := ⟨.hbm, 141, rfl⟩
abbrev main_while0b_v205 : Ref sig .tc := ⟨.hbm, 142, rfl⟩
abbrev main_while0b_v206 : Ref sig .tc := ⟨.hbm, 143, rfl⟩
abbrev main_while0b_v207 : Ref sig .tc := ⟨.hbm, 144, rfl⟩
abbrev main_while0b_v208 : Ref sig .tc := ⟨.hbm, 145, rfl⟩
abbrev main_while0b_v209 : Ref sig .tc := ⟨.hbm, 146, rfl⟩
abbrev main_while0b_v210 : Ref sig .tc := ⟨.hbm, 147, rfl⟩
abbrev main_while0b_v211 : Ref sig .tc := ⟨.hbm, 148, rfl⟩
abbrev main_while0b_v212 : Ref sig .tc := ⟨.hbm, 149, rfl⟩
abbrev main_while0b_v213 : Ref sig .tc := ⟨.hbm, 150, rfl⟩
abbrev main_while0b_v214 : Ref sig .tc := ⟨.hbm, 151, rfl⟩
abbrev main_while0b_v215 : Ref sig .tc := ⟨.hbm, 152, rfl⟩
abbrev main_while0b_v216 : Ref sig .tc := ⟨.hbm, 153, rfl⟩
abbrev main_while0b_v217 : Ref sig .tc := ⟨.hbm, 154, rfl⟩
abbrev main_while0b_v218 : Ref sig .tc := ⟨.hbm, 155, rfl⟩
abbrev main_while0b_v219 : Ref sig .tc := ⟨.hbm, 156, rfl⟩
abbrev main_while0b_v220 : Ref sig .tc := ⟨.hbm, 157, rfl⟩
abbrev main_while0b_v221 : Ref sig .tc := ⟨.hbm, 158, rfl⟩
abbrev main_while0b_v222 : Ref sig .tc := ⟨.hbm, 159, rfl⟩
abbrev main_while0b_v223 : Ref sig .tc := ⟨.hbm, 160, rfl⟩
abbrev main_while0b_v224 : Ref sig .tc := ⟨.hbm, 161, rfl⟩
abbrev main_while0b_v225 : Ref sig .tc := ⟨.hbm, 162, rfl⟩
abbrev main_while0b_cst_55 : Ref sig .tc := ⟨.hbm, 163, rfl⟩
abbrev main_while0b_v226 : Ref sig .tc := ⟨.hbm, 164, rfl⟩
abbrev main_while0b_v227 : Ref sig .tc := ⟨.hbm, 165, rfl⟩
abbrev main_while0b_cst_56 : Ref sig .tc := ⟨.hbm, 166, rfl⟩
abbrev main_while0b_v228 : Ref sig .tc := ⟨.hbm, 167, rfl⟩
abbrev main_while0b_v229 : Ref sig .tc := ⟨.hbm, 168, rfl⟩
abbrev main_while0b_cst_57 : Ref sig .tc := ⟨.hbm, 169, rfl⟩
abbrev main_while0b_v230 : Ref sig .tc := ⟨.hbm, 170, rfl⟩
abbrev main_while0b_v231 : Ref sig .tc := ⟨.hbm, 171, rfl⟩
abbrev main_while0b_cst_58 : Ref sig .tc := ⟨.hbm, 172, rfl⟩
abbrev main_while0b_v232 : Ref sig .tc := ⟨.hbm, 173, rfl⟩
abbrev main_while0b_v233 : Ref sig .tc := ⟨.hbm, 174, rfl⟩
abbrev main_while0b_v234 : Ref sig .tc := ⟨.hbm, 175, rfl⟩
abbrev main_while0b_cst_59 : Ref sig .tc := ⟨.hbm, 176, rfl⟩
abbrev main_while0b_v235 : Ref sig .tc := ⟨.hbm, 177, rfl⟩
abbrev main_while0b_v236 : Ref sig .tc := ⟨.hbm, 178, rfl⟩
abbrev main_while0b_cst_60 : Ref sig .tc := ⟨.hbm, 179, rfl⟩
abbrev main_while0b_cst_61 : Ref sig .tc := ⟨.hbm, 180, rfl⟩
abbrev main_while0b_call2_v0 : Ref sig .tc := ⟨.hbm, 181, rfl⟩
abbrev main_while0b_call2_v1 : Ref sig .tc := ⟨.hbm, 182, rfl⟩
abbrev main_while0b_v237 : Ref sig .tc := ⟨.hbm, 183, rfl⟩
abbrev main_while0b_v238 : Ref sig .tc := ⟨.hbm, 184, rfl⟩
abbrev main_while0b_v239 : Ref sig .tc := ⟨.hbm, 185, rfl⟩
abbrev main_while0b_cst_62 : Ref sig .tc := ⟨.hbm, 186, rfl⟩
abbrev main_while0b_v240 : Ref sig .tc := ⟨.hbm, 187, rfl⟩
abbrev main_while0b_v241 : Ref sig .tc := ⟨.hbm, 188, rfl⟩
abbrev main_while0b_v242 : Ref sig .tc := ⟨.hbm, 189, rfl⟩
abbrev main_while0b_v243 : Ref sig .tc := ⟨.hbm, 190, rfl⟩
abbrev main_while0b_v244 : Ref sig .tc := ⟨.hbm, 191, rfl⟩
abbrev main_while0b_v245 : Ref sig .tc := ⟨.hbm, 192, rfl⟩
abbrev main_while0b_v246 : Ref sig .tc := ⟨.hbm, 193, rfl⟩
abbrev main_while0b_v247 : Ref sig .tc := ⟨.hbm, 194, rfl⟩
abbrev main_while0b_cst_63 : Ref sig .tc := ⟨.hbm, 195, rfl⟩
abbrev main_while0b_v248 : Ref sig .tc := ⟨.hbm, 196, rfl⟩
abbrev main_while0b_v249 : Ref sig .tc := ⟨.hbm, 197, rfl⟩
abbrev main_while0b_v250 : Ref sig .tc := ⟨.hbm, 198, rfl⟩
abbrev main_while0b_cst_64 : Ref sig .tc := ⟨.hbm, 199, rfl⟩
abbrev main_while0b_call3_v0 : Ref sig .tc := ⟨.hbm, 200, rfl⟩
abbrev main_while0b_call3_v1 : Ref sig .tc := ⟨.hbm, 201, rfl⟩
abbrev main_while0b_v251 : Ref sig .tc := ⟨.hbm, 202, rfl⟩
abbrev main_while0b_v252 : Ref sig .tc := ⟨.hbm, 203, rfl⟩
abbrev main_while0b_v253 : Ref sig .tc := ⟨.hbm, 204, rfl⟩
abbrev main_while0b_cst_65 : Ref sig .tc := ⟨.hbm, 205, rfl⟩
abbrev main_while0b_v254 : Ref sig .tc := ⟨.hbm, 206, rfl⟩
abbrev main_while0b_v255 : Ref sig .tc := ⟨.hbm, 207, rfl⟩
abbrev main_while0b_v256 : Ref sig .tc := ⟨.hbm, 208, rfl⟩
abbrev main_while0b_v257 : Ref sig .tc := ⟨.hbm, 209, rfl⟩
abbrev main_while0b_v258 : Ref sig .tc := ⟨.hbm, 210, rfl⟩
abbrev main_while0b_v259 : Ref sig .tc := ⟨.hbm, 211, rfl⟩
abbrev main_while0b_v260 : Ref sig .tc := ⟨.hbm, 212, rfl⟩
abbrev main_while0b_v261 : Ref sig .tc := ⟨.hbm, 213, rfl⟩
abbrev main_while0b_v262 : Ref sig .tc := ⟨.hbm, 214, rfl⟩
abbrev main_while0b_v263 : Ref sig .tc := ⟨.hbm, 215, rfl⟩
abbrev main_while0b_v264 : Ref sig .tc := ⟨.hbm, 216, rfl⟩
abbrev main_while0b_v265 : Ref sig .tc := ⟨.hbm, 217, rfl⟩
abbrev main_while0b_v266 : Ref sig .tc := ⟨.hbm, 218, rfl⟩
abbrev main_while0b_v267 : Ref sig .tc := ⟨.hbm, 219, rfl⟩
abbrev main_while0b_v268 : Ref sig .tc := ⟨.hbm, 220, rfl⟩
abbrev main_while0b_v269 : Ref sig .tc := ⟨.hbm, 221, rfl⟩
abbrev main_while0b_v270 : Ref sig .tc := ⟨.hbm, 222, rfl⟩
abbrev main_while0b_v271 : Ref sig .tc := ⟨.hbm, 223, rfl⟩
abbrev main_while0b_v272 : Ref sig .tc := ⟨.hbm, 224, rfl⟩
abbrev main_while0b_v273 : Ref sig .tc := ⟨.hbm, 225, rfl⟩
abbrev main_while0b_v274 : Ref sig .tc := ⟨.hbm, 226, rfl⟩
abbrev main_while0b_v275 : Ref sig .tc := ⟨.hbm, 227, rfl⟩
abbrev main_while0b_v276 : Ref sig .tc := ⟨.hbm, 228, rfl⟩
abbrev main_while0b_v277 : Ref sig .tc := ⟨.hbm, 229, rfl⟩
abbrev main_while0b_v278 : Ref sig .tc := ⟨.hbm, 230, rfl⟩
abbrev main_while0b_cst_66 : Ref sig .tc := ⟨.hbm, 231, rfl⟩
abbrev main_while0b_v279 : Ref sig .tc := ⟨.hbm, 232, rfl⟩
abbrev main_while0b_v280 : Ref sig .tc := ⟨.hbm, 233, rfl⟩
abbrev main_while0b_cst_67 : Ref sig .tc := ⟨.hbm, 234, rfl⟩
abbrev main_while0b_v281 : Ref sig .tc := ⟨.hbm, 235, rfl⟩
abbrev main_while0b_v282 : Ref sig .tc := ⟨.hbm, 236, rfl⟩
abbrev main_while0b_cst_68 : Ref sig .tc := ⟨.hbm, 237, rfl⟩
abbrev main_while0b_v283 : Ref sig .tc := ⟨.hbm, 238, rfl⟩
abbrev main_while0b_v284 : Ref sig .tc := ⟨.hbm, 239, rfl⟩
abbrev main_while0b_cst_69 : Ref sig .tc := ⟨.hbm, 240, rfl⟩
abbrev main_while0b_v285 : Ref sig .tc := ⟨.hbm, 241, rfl⟩
abbrev main_while0b_v286 : Ref sig .tc := ⟨.hbm, 242, rfl⟩
abbrev main_while0b_v287 : Ref sig .tc := ⟨.hbm, 243, rfl⟩
abbrev main_while0b_cst_70 : Ref sig .tc := ⟨.hbm, 244, rfl⟩
abbrev main_while0b_v288 : Ref sig .tc := ⟨.hbm, 245, rfl⟩
abbrev main_while0b_v289 : Ref sig .tc := ⟨.hbm, 246, rfl⟩
abbrev main_while0b_cst_71 : Ref sig .tc := ⟨.hbm, 247, rfl⟩
abbrev main_while0b_cst_72 : Ref sig .tc := ⟨.hbm, 248, rfl⟩
abbrev main_while0b_call4_v0 : Ref sig .tc := ⟨.hbm, 249, rfl⟩
abbrev main_while0b_call4_v1 : Ref sig .tc := ⟨.hbm, 250, rfl⟩
abbrev main_while0b_v290 : Ref sig .tc := ⟨.hbm, 251, rfl⟩
abbrev main_while0b_v291 : Ref sig .tc := ⟨.hbm, 252, rfl⟩
abbrev main_while0b_v292 : Ref sig .tc := ⟨.hbm, 253, rfl⟩
abbrev main_while0b_cst_73 : Ref sig .tc := ⟨.hbm, 254, rfl⟩
abbrev main_while0b_v293 : Ref sig .tc := ⟨.hbm, 255, rfl⟩
abbrev main_while0b_v294 : Ref sig .tc := ⟨.hbm, 256, rfl⟩
abbrev main_while0b_v295 : Ref sig .tc := ⟨.hbm, 257, rfl⟩
abbrev main_while0b_v296 : Ref sig .tc := ⟨.hbm, 258, rfl⟩
abbrev main_while0b_v297 : Ref sig .tc := ⟨.hbm, 259, rfl⟩
abbrev main_while0b_v298 : Ref sig .tc := ⟨.hbm, 260, rfl⟩
abbrev main_while0b_v299 : Ref sig .tc := ⟨.hbm, 261, rfl⟩
abbrev main_while0b_v300 : Ref sig .tc := ⟨.hbm, 262, rfl⟩
abbrev main_while0b_cst_74 : Ref sig .tc := ⟨.hbm, 263, rfl⟩
abbrev main_while0b_v301 : Ref sig .tc := ⟨.hbm, 264, rfl⟩
abbrev main_while0b_v302 : Ref sig .tc := ⟨.hbm, 265, rfl⟩
abbrev main_while0b_v303 : Ref sig .tc := ⟨.hbm, 266, rfl⟩
abbrev main_while0b_cst_75 : Ref sig .tc := ⟨.hbm, 267, rfl⟩
abbrev main_while0b_call5_v0 : Ref sig .tc := ⟨.hbm, 268, rfl⟩
abbrev main_while0b_call5_v1 : Ref sig .tc := ⟨.hbm, 269, rfl⟩
abbrev main_while0b_v304 : Ref sig .tc := ⟨.hbm, 270, rfl⟩
abbrev main_while0b_v305 : Ref sig .tc := ⟨.hbm, 271, rfl⟩
abbrev main_while0b_v306 : Ref sig .tc := ⟨.hbm, 272, rfl⟩
abbrev main_while0b_cst_76 : Ref sig .tc := ⟨.hbm, 273, rfl⟩
abbrev main_while0b_v307 : Ref sig .tc := ⟨.hbm, 274, rfl⟩
abbrev main_while0b_v308 : Ref sig .tc := ⟨.hbm, 275, rfl⟩
abbrev main_while0b_v309 : Ref sig .tc := ⟨.hbm, 276, rfl⟩
abbrev main_while0b_v310 : Ref sig .tc := ⟨.hbm, 277, rfl⟩
abbrev main_while0b_v311 : Ref sig .tc := ⟨.hbm, 278, rfl⟩
abbrev main_while0b_v312 : Ref sig .tc := ⟨.hbm, 279, rfl⟩
abbrev main_while0b_v313 : Ref sig .tc := ⟨.hbm, 280, rfl⟩
abbrev main_while0b_v314 : Ref sig .tc := ⟨.hbm, 281, rfl⟩
abbrev main_while0b_v315 : Ref sig .tc := ⟨.hbm, 282, rfl⟩
abbrev main_while0b_v316 : Ref sig .tc := ⟨.hbm, 283, rfl⟩
abbrev main_while0b_v317 : Ref sig .tc := ⟨.hbm, 284, rfl⟩
abbrev main_while0b_v318 : Ref sig .tc := ⟨.hbm, 285, rfl⟩
abbrev main_while0b_v319 : Ref sig .tc := ⟨.hbm, 286, rfl⟩
abbrev main_while0b_v320 : Ref sig .tc := ⟨.hbm, 287, rfl⟩
abbrev main_while0b_v321 : Ref sig .tc := ⟨.hbm, 288, rfl⟩
abbrev main_while0b_v322 : Ref sig .tc := ⟨.hbm, 289, rfl⟩
abbrev main_while0b_v323 : Ref sig .tc := ⟨.hbm, 290, rfl⟩
abbrev main_while0b_v324 : Ref sig .tc := ⟨.hbm, 291, rfl⟩
abbrev main_while0b_v325 : Ref sig .tc := ⟨.hbm, 292, rfl⟩
abbrev main_while0b_v326 : Ref sig .tc := ⟨.hbm, 293, rfl⟩
abbrev main_while0b_v327 : Ref sig .tc := ⟨.hbm, 294, rfl⟩
abbrev main_while0b_v328 : Ref sig .tc := ⟨.hbm, 295, rfl⟩
abbrev main_while0b_v329 : Ref sig .tc := ⟨.hbm, 296, rfl⟩
abbrev main_while0b_v330 : Ref sig .tc := ⟨.hbm, 297, rfl⟩
abbrev main_while0b_v331 : Ref sig .tc := ⟨.hbm, 298, rfl⟩
abbrev main_while0b_cst_77 : Ref sig .tc := ⟨.hbm, 299, rfl⟩
abbrev main_while0b_v332 : Ref sig .tc := ⟨.hbm, 300, rfl⟩
abbrev main_while0b_v333 : Ref sig .tc := ⟨.hbm, 301, rfl⟩
abbrev main_while0b_cst_78 : Ref sig .tc := ⟨.hbm, 302, rfl⟩
abbrev main_while0b_v334 : Ref sig .tc := ⟨.hbm, 303, rfl⟩
abbrev main_while0b_v335 : Ref sig .tc := ⟨.hbm, 304, rfl⟩
abbrev main_while0b_cst_79 : Ref sig .tc := ⟨.hbm, 305, rfl⟩
abbrev main_while0b_v336 : Ref sig .tc := ⟨.hbm, 306, rfl⟩
abbrev main_while0b_v337 : Ref sig .tc := ⟨.hbm, 307, rfl⟩
abbrev main_while0b_cst_80 : Ref sig .tc := ⟨.hbm, 308, rfl⟩
abbrev main_while0b_v338 : Ref sig .tc := ⟨.hbm, 309, rfl⟩
abbrev main_while0b_v339 : Ref sig .tc := ⟨.hbm, 310, rfl⟩
abbrev main_while0b_v340 : Ref sig .tc := ⟨.hbm, 311, rfl⟩
abbrev main_while0b_cst_81 : Ref sig .tc := ⟨.hbm, 312, rfl⟩
abbrev main_while0b_v341 : Ref sig .tc := ⟨.hbm, 313, rfl⟩
abbrev main_while0b_v342 : Ref sig .tc := ⟨.hbm, 314, rfl⟩
abbrev main_while0b_cst_82 : Ref sig .tc := ⟨.hbm, 315, rfl⟩
abbrev main_while0b_cst_83 : Ref sig .tc := ⟨.hbm, 316, rfl⟩
abbrev main_while0b_call6_v0 : Ref sig .tc := ⟨.hbm, 317, rfl⟩
abbrev main_while0b_call6_v1 : Ref sig .tc := ⟨.hbm, 318, rfl⟩
abbrev main_while0b_v343 : Ref sig .tc := ⟨.hbm, 319, rfl⟩
abbrev main_while0b_v344 : Ref sig .tc := ⟨.hbm, 320, rfl⟩
abbrev main_while0b_v345 : Ref sig .tc := ⟨.hbm, 321, rfl⟩
abbrev main_while0b_cst_84 : Ref sig .tc := ⟨.hbm, 322, rfl⟩
abbrev main_while0b_v346 : Ref sig .tc := ⟨.hbm, 323, rfl⟩
abbrev main_while0b_v347 : Ref sig .tc := ⟨.hbm, 324, rfl⟩
abbrev main_while0b_v348 : Ref sig .tc := ⟨.hbm, 325, rfl⟩
abbrev main_while0b_v349 : Ref sig .tc := ⟨.hbm, 326, rfl⟩
abbrev main_while0b_v350 : Ref sig .tc := ⟨.hbm, 327, rfl⟩
abbrev main_while0b_v351 : Ref sig .tc := ⟨.hbm, 328, rfl⟩
abbrev main_while0b_v352 : Ref sig .tc := ⟨.hbm, 329, rfl⟩
abbrev main_while0b_v353 : Ref sig .tc := ⟨.hbm, 330, rfl⟩
abbrev main_while0b_cst_85 : Ref sig .tc := ⟨.hbm, 331, rfl⟩
abbrev main_while0b_v354 : Ref sig .tc := ⟨.hbm, 332, rfl⟩
abbrev main_while0b_v355 : Ref sig .tc := ⟨.hbm, 333, rfl⟩
abbrev main_while0b_v356 : Ref sig .tc := ⟨.hbm, 334, rfl⟩
abbrev main_while0b_cst_86 : Ref sig .tc := ⟨.hbm, 335, rfl⟩
abbrev main_while0b_call7_v0 : Ref sig .tc := ⟨.hbm, 336, rfl⟩
abbrev main_while0b_call7_v1 : Ref sig .tc := ⟨.hbm, 337, rfl⟩
abbrev main_while0b_v357 : Ref sig .tc := ⟨.hbm, 338, rfl⟩
abbrev main_while0b_v358 : Ref sig .tc := ⟨.hbm, 339, rfl⟩
abbrev main_while0b_v359 : Ref sig .tc := ⟨.hbm, 340, rfl⟩
abbrev main_while0b_cst_87 : Ref sig .tc := ⟨.hbm, 341, rfl⟩
abbrev main_while0b_v360 : Ref sig .tc := ⟨.hbm, 342, rfl⟩
abbrev main_while0b_v361 : Ref sig .tc := ⟨.hbm, 343, rfl⟩
abbrev main_while0b_v362 : Ref sig .tc := ⟨.hbm, 344, rfl⟩
abbrev main_while0b_v363 : Ref sig .tc := ⟨.hbm, 345, rfl⟩
abbrev main_while0b_v364 : Ref sig .tc := ⟨.hbm, 346, rfl⟩
abbrev main_while0b_v365 : Ref sig .tc := ⟨.hbm, 347, rfl⟩
abbrev main_while0b_v366 : Ref sig .tc := ⟨.hbm, 348, rfl⟩
abbrev main_while0b_v367 : Ref sig .tc := ⟨.hbm, 349, rfl⟩
abbrev main_while0b_v368 : Ref sig .tc := ⟨.hbm, 350, rfl⟩
abbrev main_while0b_v369 : Ref sig .tc := ⟨.hbm, 351, rfl⟩
abbrev main_while0b_v370 : Ref sig .tc := ⟨.hbm, 352, rfl⟩
abbrev main_while0b_v371 : Ref sig .tc := ⟨.hbm, 353, rfl⟩
abbrev main_while0b_v372 : Ref sig .tc := ⟨.hbm, 354, rfl⟩
abbrev main_while0b_v373 : Ref sig .tc := ⟨.hbm, 355, rfl⟩
abbrev main_while0b_v374 : Ref sig .tc := ⟨.hbm, 356, rfl⟩
abbrev main_while0b_v375 : Ref sig .tc := ⟨.hbm, 357, rfl⟩
abbrev main_while0b_v376 : Ref sig .tc := ⟨.hbm, 358, rfl⟩
abbrev main_while0b_v377 : Ref sig .tc := ⟨.hbm, 359, rfl⟩
abbrev main_while0b_v378 : Ref sig .tc := ⟨.hbm, 360, rfl⟩
abbrev main_while0b_v379 : Ref sig .tc := ⟨.hbm, 361, rfl⟩
abbrev main_while0b_v380 : Ref sig .tc := ⟨.hbm, 362, rfl⟩
abbrev main_while0b_v381 : Ref sig .tc := ⟨.hbm, 363, rfl⟩
abbrev main_while0b_v382 : Ref sig .tc := ⟨.hbm, 364, rfl⟩
abbrev main_while0b_v383 : Ref sig .tc := ⟨.hbm, 365, rfl⟩
abbrev main_while0b_v384 : Ref sig .tc := ⟨.hbm, 366, rfl⟩
abbrev main_while0b_cst_88 : Ref sig .tc := ⟨.hbm, 367, rfl⟩
abbrev main_while0b_v385 : Ref sig .tc := ⟨.hbm, 368, rfl⟩
abbrev main_while0b_v386 : Ref sig .tc := ⟨.hbm, 369, rfl⟩
abbrev main_while0b_cst_89 : Ref sig .tc := ⟨.hbm, 370, rfl⟩
abbrev main_while0b_v387 : Ref sig .tc := ⟨.hbm, 371, rfl⟩
abbrev main_while0b_v388 : Ref sig .tc := ⟨.hbm, 372, rfl⟩
abbrev main_while0b_cst_90 : Ref sig .tc := ⟨.hbm, 373, rfl⟩
abbrev main_while0b_v389 : Ref sig .tc := ⟨.hbm, 374, rfl⟩
abbrev main_while0b_v390 : Ref sig .tc := ⟨.hbm, 375, rfl⟩
abbrev main_while0b_cst_91 : Ref sig .tc := ⟨.hbm, 376, rfl⟩
abbrev main_while0b_v391 : Ref sig .tc := ⟨.hbm, 377, rfl⟩
abbrev main_while0b_v392 : Ref sig .tc := ⟨.hbm, 378, rfl⟩
abbrev main_while0b_v393 : Ref sig .tc := ⟨.hbm, 379, rfl⟩
abbrev main_while0b_cst_92 : Ref sig .tc := ⟨.hbm, 380, rfl⟩
abbrev main_while0b_v394 : Ref sig .tc := ⟨.hbm, 381, rfl⟩
abbrev main_while0b_v395 : Ref sig .tc := ⟨.hbm, 382, rfl⟩
abbrev main_while0b_cst_93 : Ref sig .tc := ⟨.hbm, 383, rfl⟩
abbrev main_while0b_cst_94 : Ref sig .tc := ⟨.hbm, 384, rfl⟩
abbrev main_while0b_call8_v0 : Ref sig .tc := ⟨.hbm, 385, rfl⟩
abbrev main_while0b_call8_v1 : Ref sig .tc := ⟨.hbm, 386, rfl⟩
abbrev main_while0b_v396 : Ref sig .tc := ⟨.hbm, 387, rfl⟩
abbrev main_while0b_v397 : Ref sig .tc := ⟨.hbm, 388, rfl⟩
abbrev main_while0b_v398 : Ref sig .tc := ⟨.hbm, 389, rfl⟩
abbrev main_while0b_cst_95 : Ref sig .tc := ⟨.hbm, 390, rfl⟩
abbrev main_while0b_v399 : Ref sig .tc := ⟨.hbm, 391, rfl⟩
abbrev main_while0b_v400 : Ref sig .tc := ⟨.hbm, 392, rfl⟩
abbrev main_while0b_v401 : Ref sig .tc := ⟨.hbm, 393, rfl⟩
abbrev main_while0b_v402 : Ref sig .tc := ⟨.hbm, 394, rfl⟩
abbrev main_while0b_v403 : Ref sig .tc := ⟨.hbm, 395, rfl⟩
abbrev main_while0b_v404 : Ref sig .tc := ⟨.hbm, 396, rfl⟩
abbrev main_while0b_v405 : Ref sig .tc := ⟨.hbm, 397, rfl⟩
abbrev main_while0b_v406 : Ref sig .tc := ⟨.hbm, 398, rfl⟩
abbrev main_while0b_cst_96 : Ref sig .tc := ⟨.hbm, 399, rfl⟩
abbrev main_while0b_v407 : Ref sig .tc := ⟨.hbm, 400, rfl⟩
abbrev main_while0b_v408 : Ref sig .tc := ⟨.hbm, 401, rfl⟩
abbrev main_while0b_v409 : Ref sig .tc := ⟨.hbm, 402, rfl⟩
abbrev main_while0b_cst_97 : Ref sig .tc := ⟨.hbm, 403, rfl⟩
abbrev main_while0b_call9_v0 : Ref sig .tc := ⟨.hbm, 404, rfl⟩
abbrev main_while0b_call9_v1 : Ref sig .tc := ⟨.hbm, 405, rfl⟩
abbrev main_while0b_v410 : Ref sig .tc := ⟨.hbm, 406, rfl⟩
abbrev main_while0b_v411 : Ref sig .tc := ⟨.hbm, 407, rfl⟩
abbrev main_while0b_v412 : Ref sig .tc := ⟨.hbm, 408, rfl⟩
abbrev main_while0b_cst_98 : Ref sig .tc := ⟨.hbm, 409, rfl⟩
abbrev main_while0b_v413 : Ref sig .tc := ⟨.hbm, 410, rfl⟩
abbrev main_while0b_v414 : Ref sig .tc := ⟨.hbm, 411, rfl⟩
abbrev main_while0b_v415 : Ref sig .tc := ⟨.hbm, 412, rfl⟩
abbrev main_while0b_v416 : Ref sig .tc := ⟨.hbm, 413, rfl⟩
abbrev main_while0b_v417 : Ref sig .tc := ⟨.hbm, 414, rfl⟩
abbrev main_while0b_v418 : Ref sig .tc := ⟨.hbm, 415, rfl⟩
abbrev main_while0b_v419 : Ref sig .tc := ⟨.hbm, 416, rfl⟩
abbrev main_while0b_v420 : Ref sig .tc := ⟨.hbm, 417, rfl⟩
abbrev main_while0b_v421 : Ref sig .tc := ⟨.hbm, 418, rfl⟩
abbrev main_while0b_v422 : Ref sig .tc := ⟨.hbm, 419, rfl⟩
abbrev main_while0b_v423 : Ref sig .tc := ⟨.hbm, 420, rfl⟩
abbrev main_while0b_v424 : Ref sig .tc := ⟨.hbm, 421, rfl⟩
abbrev main_while0b_v425 : Ref sig .tc := ⟨.hbm, 422, rfl⟩
abbrev main_while0b_v426 : Ref sig .tc := ⟨.hbm, 423, rfl⟩
abbrev main_while0b_v427 : Ref sig .tc := ⟨.hbm, 424, rfl⟩
abbrev main_while0b_v428 : Ref sig .tc := ⟨.hbm, 425, rfl⟩
abbrev main_while0b_v429 : Ref sig .tc := ⟨.hbm, 426, rfl⟩
abbrev main_while0b_v430 : Ref sig .tc := ⟨.hbm, 427, rfl⟩
abbrev main_while0b_v431 : Ref sig .tc := ⟨.hbm, 428, rfl⟩
abbrev main_while0b_v432 : Ref sig .tc := ⟨.hbm, 429, rfl⟩
abbrev main_while0b_v433 : Ref sig .tc := ⟨.hbm, 430, rfl⟩
abbrev main_while0b_v434 : Ref sig .tc := ⟨.hbm, 431, rfl⟩
abbrev main_while0b_v435 : Ref sig .tc := ⟨.hbm, 432, rfl⟩
abbrev main_while0b_v436 : Ref sig .tc := ⟨.hbm, 433, rfl⟩
abbrev main_while0b_v437 : Ref sig .tc := ⟨.hbm, 434, rfl⟩
abbrev main_while0b_cst_99 : Ref sig .tc := ⟨.hbm, 435, rfl⟩
abbrev main_while0b_v438 : Ref sig .tc := ⟨.hbm, 436, rfl⟩
abbrev main_while0b_v439 : Ref sig .tc := ⟨.hbm, 437, rfl⟩
abbrev main_while0b_cst_100 : Ref sig .tc := ⟨.hbm, 438, rfl⟩
abbrev main_while0b_v440 : Ref sig .tc := ⟨.hbm, 439, rfl⟩
abbrev main_while0b_v441 : Ref sig .tc := ⟨.hbm, 440, rfl⟩
abbrev main_while0b_cst_101 : Ref sig .tc := ⟨.hbm, 441, rfl⟩
abbrev main_while0b_v442 : Ref sig .tc := ⟨.hbm, 442, rfl⟩
abbrev main_while0b_v443 : Ref sig .tc := ⟨.hbm, 443, rfl⟩
abbrev main_while0b_cst_102 : Ref sig .tc := ⟨.hbm, 444, rfl⟩
abbrev main_while0b_v444 : Ref sig .tc := ⟨.hbm, 445, rfl⟩
abbrev main_while0b_v445 : Ref sig .tc := ⟨.hbm, 446, rfl⟩
abbrev main_while0b_v446 : Ref sig .tc := ⟨.hbm, 447, rfl⟩
abbrev main_while0b_cst_103 : Ref sig .tc := ⟨.hbm, 448, rfl⟩
abbrev main_while0b_v447 : Ref sig .tc := ⟨.hbm, 449, rfl⟩
abbrev main_while0b_v448 : Ref sig .tc := ⟨.hbm, 450, rfl⟩
abbrev main_while0b_cst_104 : Ref sig .tc := ⟨.hbm, 451, rfl⟩
abbrev main_while0b_cst_105 : Ref sig .tc := ⟨.hbm, 452, rfl⟩
abbrev main_while0b_call10_v0 : Ref sig .tc := ⟨.hbm, 453, rfl⟩
abbrev main_while0b_call10_v1 : Ref sig .tc := ⟨.hbm, 454, rfl⟩
abbrev main_while0b_v449 : Ref sig .tc := ⟨.hbm, 455, rfl⟩
abbrev main_while0b_v450 : Ref sig .tc := ⟨.hbm, 456, rfl⟩
abbrev main_while0b_v451 : Ref sig .tc := ⟨.hbm, 457, rfl⟩
abbrev main_while0b_cst_106 : Ref sig .tc := ⟨.hbm, 458, rfl⟩
abbrev main_while0b_v452 : Ref sig .tc := ⟨.hbm, 459, rfl⟩
abbrev main_while0b_v453 : Ref sig .tc := ⟨.hbm, 460, rfl⟩
abbrev main_while0b_v454 : Ref sig .tc := ⟨.hbm, 461, rfl⟩
abbrev main_while0b_v455 : Ref sig .tc := ⟨.hbm, 462, rfl⟩
abbrev main_while0b_v456 : Ref sig .tc := ⟨.hbm, 463, rfl⟩
abbrev main_while0b_v457 : Ref sig .tc := ⟨.hbm, 464, rfl⟩
abbrev main_while0b_v458 : Ref sig .tc := ⟨.hbm, 465, rfl⟩
abbrev main_while0b_v459 : Ref sig .tc := ⟨.hbm, 466, rfl⟩
abbrev main_while0b_cst_107 : Ref sig .tc := ⟨.hbm, 467, rfl⟩
abbrev main_while0b_v460 : Ref sig .tc := ⟨.hbm, 468, rfl⟩
abbrev main_while0b_v461 : Ref sig .tc := ⟨.hbm, 469, rfl⟩
abbrev main_while0b_v462 : Ref sig .tc := ⟨.hbm, 470, rfl⟩
abbrev main_while0b_cst_108 : Ref sig .tc := ⟨.hbm, 471, rfl⟩
abbrev main_while0b_call11_v0 : Ref sig .tc := ⟨.hbm, 472, rfl⟩
abbrev main_while0b_call11_v1 : Ref sig .tc := ⟨.hbm, 473, rfl⟩
abbrev main_while0b_v463 : Ref sig .tc := ⟨.hbm, 474, rfl⟩
abbrev main_while0b_v464 : Ref sig .tc := ⟨.hbm, 475, rfl⟩
abbrev main_while0b_v465 : Ref sig .tc := ⟨.hbm, 476, rfl⟩
abbrev main_while0b_cst_109 : Ref sig .tc := ⟨.hbm, 477, rfl⟩
abbrev main_while0b_v466 : Ref sig .tc := ⟨.hbm, 478, rfl⟩
abbrev main_while0b_v467 : Ref sig .tc := ⟨.hbm, 479, rfl⟩
abbrev main_while0b_v468 : Ref sig .tc := ⟨.hbm, 480, rfl⟩
abbrev main_while0b_v469 : Ref sig .tc := ⟨.hbm, 481, rfl⟩
abbrev main_while0b_v470 : Ref sig .tc := ⟨.hbm, 482, rfl⟩
abbrev main_while0b_v471 : Ref sig .tc := ⟨.hbm, 483, rfl⟩
abbrev main_while0b_v472 : Ref sig .tc := ⟨.hbm, 484, rfl⟩
abbrev main_while0b_v473 : Ref sig .tc := ⟨.hbm, 485, rfl⟩
abbrev main_while0b_v474 : Ref sig .tc := ⟨.hbm, 486, rfl⟩
abbrev main_while0b_v475 : Ref sig .tc := ⟨.hbm, 487, rfl⟩
abbrev main_while0b_v476 : Ref sig .tc := ⟨.hbm, 488, rfl⟩
abbrev main_while0b_v477 : Ref sig .tc := ⟨.hbm, 489, rfl⟩
abbrev main_while0b_v478 : Ref sig .tc := ⟨.hbm, 490, rfl⟩
abbrev main_while0b_v479 : Ref sig .tc := ⟨.hbm, 491, rfl⟩
abbrev main_while0b_v480 : Ref sig .tc := ⟨.hbm, 492, rfl⟩
abbrev main_while0b_v481 : Ref sig .tc := ⟨.hbm, 493, rfl⟩
abbrev main_while0b_v482 : Ref sig .tc := ⟨.hbm, 494, rfl⟩
abbrev main_while0b_v483 : Ref sig .tc := ⟨.hbm, 495, rfl⟩
abbrev main_while0b_v484 : Ref sig .tc := ⟨.hbm, 496, rfl⟩
abbrev main_while0b_v485 : Ref sig .tc := ⟨.hbm, 497, rfl⟩
abbrev main_while0b_v486 : Ref sig .tc := ⟨.hbm, 498, rfl⟩
abbrev main_while0b_v487 : Ref sig .tc := ⟨.hbm, 499, rfl⟩
abbrev main_while0b_v488 : Ref sig .tc := ⟨.hbm, 500, rfl⟩
abbrev main_while0b_v489 : Ref sig .tc := ⟨.hbm, 501, rfl⟩
abbrev main_while0b_c_110 : Ref sig .tc := ⟨.hbm, 502, rfl⟩
abbrev main_while0b_v490 : Ref sig .tc := ⟨.hbm, 503, rfl⟩
abbrev main_v68 : Ref sig .tc := ⟨.hbm, 504, rfl⟩
abbrev main_cst_7 : Ref sig .tc := ⟨.hbm, 505, rfl⟩
abbrev main_v69 : Ref sig .tc := ⟨.hbm, 506, rfl⟩
abbrev main_v70 : Ref sig .tc := ⟨.hbm, 507, rfl⟩
abbrev main_v71 : Ref sig .tc := ⟨.hbm, 508, rfl⟩
abbrev main_cst_8 : Ref sig .tc := ⟨.hbm, 509, rfl⟩
abbrev main_v72 : Ref sig .tc := ⟨.hbm, 510, rfl⟩
abbrev main_v73 : Ref sig .tc := ⟨.hbm, 511, rfl⟩
abbrev main_v74 : Ref sig .tc := ⟨.hbm, 512, rfl⟩
abbrev main_cst_9 : Ref sig .tc := ⟨.hbm, 513, rfl⟩
abbrev main_v75 : Ref sig .tc := ⟨.hbm, 514, rfl⟩
abbrev main_v76 : Ref sig .tc := ⟨.hbm, 515, rfl⟩
abbrev main_v77 : Ref sig .tc := ⟨.hbm, 516, rfl⟩
abbrev main_cst_10 : Ref sig .tc := ⟨.hbm, 517, rfl⟩
abbrev main_v78 : Ref sig .tc := ⟨.hbm, 518, rfl⟩
abbrev main_v79 : Ref sig .tc := ⟨.hbm, 519, rfl⟩
abbrev main_v80 : Ref sig .tc := ⟨.hbm, 520, rfl⟩
abbrev main_call12_v0 : Ref sig .tc := ⟨.hbm, 521, rfl⟩
abbrev main_v81 : Ref sig .tc := ⟨.hbm, 522, rfl⟩
abbrev main_v82 : Ref sig .tc := ⟨.hbm, 523, rfl⟩
abbrev main_call13_v0 : Ref sig .tc := ⟨.hbm, 524, rfl⟩
abbrev main_v83 : Ref sig .tc := ⟨.hbm, 525, rfl⟩
abbrev main_v84 : Ref sig .tc := ⟨.hbm, 526, rfl⟩
abbrev main_v85 : Ref sig .tc := ⟨.hbm, 527, rfl⟩
abbrev main_call14_v0 : Ref sig .tc := ⟨.hbm, 528, rfl⟩
abbrev main_v86 : Ref sig .tc := ⟨.hbm, 529, rfl⟩
abbrev main_v87 : Ref sig .tc := ⟨.hbm, 530, rfl⟩
abbrev main_call15_v0 : Ref sig .tc := ⟨.hbm, 531, rfl⟩
abbrev main_v88 : Ref sig .tc := ⟨.hbm, 532, rfl⟩
abbrev main_v89 : Ref sig .tc := ⟨.hbm, 533, rfl⟩
abbrev main_v90 : Ref sig .tc := ⟨.hbm, 534, rfl⟩
abbrev main_call16_v0 : Ref sig .tc := ⟨.hbm, 535, rfl⟩
abbrev main_v91 : Ref sig .tc := ⟨.hbm, 536, rfl⟩
abbrev main_v92 : Ref sig .tc := ⟨.hbm, 537, rfl⟩
abbrev main_call17_v0 : Ref sig .tc := ⟨.hbm, 538, rfl⟩
abbrev main_v93 : Ref sig .tc := ⟨.hbm, 539, rfl⟩
abbrev main_v94 : Ref sig .tc := ⟨.hbm, 540, rfl⟩
abbrev main_v95 : Ref sig .tc := ⟨.hbm, 541, rfl⟩
abbrev main_cst_11 : Ref sig .tc := ⟨.hbm, 542, rfl⟩
abbrev main_v96 : Ref sig .tc := ⟨.hbm, 543, rfl⟩
abbrev main_v97 : Ref sig .tc := ⟨.hbm, 544, rfl⟩
abbrev main_v98 : Ref sig .tc := ⟨.hbm, 545, rfl⟩
abbrev main_v99 : Ref sig .tc := ⟨.hbm, 546, rfl⟩
abbrev main_v100 : Ref sig .tc := ⟨.hbm, 547, rfl⟩
abbrev main_cst_12 : Ref sig .tc := ⟨.hbm, 548, rfl⟩
abbrev main_call18_v0 : Ref sig .tc := ⟨.hbm, 549, rfl⟩
abbrev main_call18_v1 : Ref sig .tc := ⟨.hbm, 550, rfl⟩
abbrev main_v101 : Ref sig .tc := ⟨.hbm, 551, rfl⟩
abbrev main_v102 : Ref sig .tc := ⟨.hbm, 552, rfl⟩
abbrev main_cst_13 : Ref sig .tc := ⟨.hbm, 553, rfl⟩
abbrev main_v103 : Ref sig .tc := ⟨.hbm, 554, rfl⟩
abbrev main_v104 : Ref sig .tc := ⟨.hbm, 555, rfl⟩
abbrev main_cst_14 : Ref sig .tc := ⟨.hbm, 556, rfl⟩
abbrev main_call19_v0 : Ref sig .tc := ⟨.hbm, 557, rfl⟩
abbrev main_call19_v1 : Ref sig .tc := ⟨.hbm, 558, rfl⟩
abbrev main_v105 : Ref sig .tc := ⟨.hbm, 559, rfl⟩
abbrev main_v106 : Ref sig .tc := ⟨.hbm, 560, rfl⟩
abbrev main_v107 : Ref sig .tc := ⟨.hbm, 561, rfl⟩
abbrev main_v108 : Ref sig .tc := ⟨.hbm, 562, rfl⟩
abbrev main_v109 : Ref sig .tc := ⟨.hbm, 563, rfl⟩
abbrev main_cst_15 : Ref sig .tc := ⟨.hbm, 564, rfl⟩
abbrev main_v110 : Ref sig .tc := ⟨.hbm, 565, rfl⟩
abbrev main_v111 : Ref sig .tc := ⟨.hbm, 566, rfl⟩
abbrev main_v112 : Ref sig .tc := ⟨.hbm, 567, rfl⟩
abbrev main_v113 : Ref sig .tc := ⟨.hbm, 568, rfl⟩
abbrev main_v114 : Ref sig .tc := ⟨.hbm, 569, rfl⟩
abbrev main_cst_16 : Ref sig .tc := ⟨.hbm, 570, rfl⟩
abbrev main_call20_v0 : Ref sig .tc := ⟨.hbm, 571, rfl⟩
abbrev main_call20_v1 : Ref sig .tc := ⟨.hbm, 572, rfl⟩
abbrev main_v115 : Ref sig .tc := ⟨.hbm, 573, rfl⟩
abbrev main_v116 : Ref sig .tc := ⟨.hbm, 574, rfl⟩
abbrev main_cst_17 : Ref sig .tc := ⟨.hbm, 575, rfl⟩
abbrev main_v117 : Ref sig .tc := ⟨.hbm, 576, rfl⟩
abbrev main_v118 : Ref sig .tc := ⟨.hbm, 577, rfl⟩
abbrev main_cst_18 : Ref sig .tc := ⟨.hbm, 578, rfl⟩
abbrev main_call21_v0 : Ref sig .tc := ⟨.hbm, 579, rfl⟩
abbrev main_call21_v1 : Ref sig .tc := ⟨.hbm, 580, rfl⟩
abbrev main_v119 : Ref sig .tc := ⟨.hbm, 581, rfl⟩
abbrev main_v120 : Ref sig .tc := ⟨.hbm, 582, rfl⟩
abbrev main_v121 : Ref sig .tc := ⟨.hbm, 583, rfl⟩
abbrev main_v122 : Ref sig .tc := ⟨.hbm, 584, rfl⟩
abbrev main_v123 : Ref sig .tc := ⟨.hbm, 585, rfl⟩
abbrev main_cst_19 : Ref sig .tc := ⟨.hbm, 586, rfl⟩
abbrev main_v124 : Ref sig .tc := ⟨.hbm, 587, rfl⟩
abbrev main_v125 : Ref sig .tc := ⟨.hbm, 588, rfl⟩
abbrev main_v126 : Ref sig .tc := ⟨.hbm, 589, rfl⟩
abbrev main_v127 : Ref sig .tc := ⟨.hbm, 590, rfl⟩
abbrev main_v128 : Ref sig .tc := ⟨.hbm, 591, rfl⟩
abbrev main_cst_20 : Ref sig .tc := ⟨.hbm, 592, rfl⟩
abbrev main_call22_v0 : Ref sig .tc := ⟨.hbm, 593, rfl⟩
abbrev main_call22_v1 : Ref sig .tc := ⟨.hbm, 594, rfl⟩
abbrev main_v129 : Ref sig .tc := ⟨.hbm, 595, rfl⟩
abbrev main_v130 : Ref sig .tc := ⟨.hbm, 596, rfl⟩
abbrev main_cst_21 : Ref sig .tc := ⟨.hbm, 597, rfl⟩
abbrev main_v131 : Ref sig .tc := ⟨.hbm, 598, rfl⟩
abbrev main_v132 : Ref sig .tc := ⟨.hbm, 599, rfl⟩
abbrev main_cst_22 : Ref sig .tc := ⟨.hbm, 600, rfl⟩
abbrev main_call23_v0 : Ref sig .tc := ⟨.hbm, 601, rfl⟩
abbrev main_call23_v1 : Ref sig .tc := ⟨.hbm, 602, rfl⟩
abbrev main_v133 : Ref sig .tc := ⟨.hbm, 603, rfl⟩
abbrev main_v134 : Ref sig .tc := ⟨.hbm, 604, rfl⟩
abbrev main_v135 : Ref sig .tc := ⟨.hbm, 605, rfl⟩
abbrev main_v136 : Ref sig .tc := ⟨.hbm, 606, rfl⟩
abbrev main_v137 : Ref sig .tc := ⟨.hbm, 607, rfl⟩
abbrev main_cst_23 : Ref sig .tc := ⟨.hbm, 608, rfl⟩
abbrev main_v138 : Ref sig .tc := ⟨.hbm, 609, rfl⟩
abbrev main_v139 : Ref sig .tc := ⟨.hbm, 610, rfl⟩
abbrev main_v140 : Ref sig .tc := ⟨.hbm, 611, rfl⟩
abbrev main_v141 : Ref sig .tc := ⟨.hbm, 612, rfl⟩
abbrev main_v142 : Ref sig .tc := ⟨.hbm, 613, rfl⟩
abbrev main_cst_24 : Ref sig .tc := ⟨.hbm, 614, rfl⟩
abbrev main_call24_v0 : Ref sig .tc := ⟨.hbm, 615, rfl⟩
abbrev main_call24_v1 : Ref sig .tc := ⟨.hbm, 616, rfl⟩
abbrev main_v143 : Ref sig .tc := ⟨.hbm, 617, rfl⟩
abbrev main_v144 : Ref sig .tc := ⟨.hbm, 618, rfl⟩
abbrev main_cst_25 : Ref sig .tc := ⟨.hbm, 619, rfl⟩
abbrev main_v145 : Ref sig .tc := ⟨.hbm, 620, rfl⟩
abbrev main_v146 : Ref sig .tc := ⟨.hbm, 621, rfl⟩
abbrev main_cst_26 : Ref sig .tc := ⟨.hbm, 622, rfl⟩
abbrev main_call25_v0 : Ref sig .tc := ⟨.hbm, 623, rfl⟩
abbrev main_call25_v1 : Ref sig .tc := ⟨.hbm, 624, rfl⟩
abbrev main_v147 : Ref sig .tc := ⟨.hbm, 625, rfl⟩
abbrev main_v148 : Ref sig .tc := ⟨.hbm, 626, rfl⟩
abbrev main_v149 : Ref sig .tc := ⟨.hbm, 627, rfl⟩
abbrev main_v150 : Ref sig .tc := ⟨.hbm, 628, rfl⟩
abbrev main_v151 : Ref sig .tc := ⟨.hbm, 629, rfl⟩
abbrev main_v152 : Ref sig .tc := ⟨.hbm, 630, rfl⟩
abbrev main_cst_27 : Ref sig .tc := ⟨.hbm, 631, rfl⟩
abbrev main_v153 : Ref sig .tc := ⟨.hbm, 632, rfl⟩
abbrev main_v154 : Ref sig .tc := ⟨.hbm, 633, rfl⟩
abbrev main_v155 : Ref sig .tc := ⟨.hbm, 634, rfl⟩
abbrev main_v156 : Ref sig .tc := ⟨.hbm, 635, rfl⟩
abbrev main_v157 : Ref sig .tc := ⟨.hbm, 636, rfl⟩
abbrev main_v158 : Ref sig .tc := ⟨.hbm, 637, rfl⟩
abbrev main_cst_28 : Ref sig .tc := ⟨.hbm, 638, rfl⟩
abbrev main_v159 : Ref sig .tc := ⟨.hbm, 639, rfl⟩
abbrev main_v160 : Ref sig .tc := ⟨.hbm, 640, rfl⟩
abbrev main_cst_29 : Ref sig .tc := ⟨.hbm, 641, rfl⟩
abbrev main_v161 : Ref sig .tc := ⟨.hbm, 642, rfl⟩
abbrev main_v162 : Ref sig .tc := ⟨.hbm, 643, rfl⟩
abbrev main_v163 : Ref sig .tc := ⟨.hbm, 644, rfl⟩
abbrev main_cst_30 : Ref sig .tc := ⟨.hbm, 645, rfl⟩
abbrev main_v164 : Ref sig .tc := ⟨.hbm, 646, rfl⟩
abbrev main_v165 : Ref sig .tc := ⟨.hbm, 647, rfl⟩
abbrev main_v166 : Ref sig .tc := ⟨.hbm, 648, rfl⟩
abbrev main_cst_31 : Ref sig .tc := ⟨.hbm, 649, rfl⟩
abbrev main_v167 : Ref sig .tc := ⟨.hbm, 650, rfl⟩
abbrev main_cst_32 : Ref sig .tc := ⟨.hbm, 651, rfl⟩
abbrev main_v168 : Ref sig .tc := ⟨.hbm, 652, rfl⟩
abbrev main_v169 : Ref sig .tc := ⟨.hbm, 653, rfl⟩
abbrev main_cst_33 : Ref sig .tc := ⟨.hbm, 654, rfl⟩
abbrev main_v170 : Ref sig .tc := ⟨.hbm, 655, rfl⟩

abbrev nD : Nat := 1
abbrev τ : Topo := Topo.v7x

variable {F : FTy → Type} [FloatOps F]

abbrev main_while0_count : Scf.Loop 32 := ⟨0#32, 5#32, 1#32⟩
-- ==== Proof.Body.lean ====
/- What the kernel's body computes on one block, written as the program is: the four columns of the
   design matrix, five sweeps of column rotations, the choice of the smallest column, the Gram
   matrix, the correction step and the loss. Every value here is the printed one, operation for
   operation; the frame's proof finds the body's result to be this one by computation. -/
module

public import Idealize.ShloMosaic.Lib.Pipeline.FrameBody
public import Idealize.ShloMosaic.Lib.Tactic
public import Idealize.ShloMosaic.Init

@[expose] public section

noncomputable section

namespace Cert.Proof.Body

open Idealize.ShloMosaic Idealize.SL.Sem

abbrev SP : Shape := ⟨4, ![2, 8, 32, 1024]⟩
abbrev SM : Shape := ⟨4, ![8, 3, 4, 1024]⟩
abbrev SW : Shape := ⟨3, ![8, 32, 1024]⟩
abbrev SG : Shape := ⟨3, ![3, 32, 1024]⟩
abbrev SV : Shape := ⟨2, ![32, 1024]⟩
abbrev SR : Shape := ⟨2, ![1, 1024]⟩
abbrev SP1 : Shape := ⟨4, ![1, 1, 32, 1024]⟩
abbrev SM1 : Shape := ⟨4, ![1, 1, 1, 1024]⟩
abbrev SW1 : Shape := ⟨3, ![1, 32, 1024]⟩
abbrev SL : Shape := ⟨1, ![1024]⟩
abbrev SO : Shape := ⟨3, ![1, 1, 1024]⟩

theorem inP (k : Fin 2) (v : Fin 8) (a : Fin 4) : (![k.val, v.val, 0, 0] : Fin 4 → Nat) a + SP1.size a ≤ SP.size a := by
  revert k v a; decide
theorem inM (v : Fin 8) (k : Fin 3) (c : Fin 4) (a : Fin 4) : (![v.val, k.val, c.val, 0] : Fin 4 → Nat) a + SM1.size a ≤ SM.size a := by
  revert v k c a; decide
theorem inW (v : Fin 8) (a : Fin 3) : (![v.val, 0, 0] : Fin 3 → Nat) a + SW1.size a ≤ SW.size a := by
  revert v a; decide
theorem inG (k : Fin 3) (a : Fin 3) : (![k.val, 0, 0] : Fin 3 → Nat) a + SW1.size a ≤ SG.size a := by
  revert k a; decide
theorem castP : SP1.ShapeCasts SV := by decide
theorem castM : SM1.ShapeCasts SR := by decide
theorem castW : SW1.ShapeCasts SV := by decide
theorem bcR : SR.Broadcasts SV := by decide
theorem redV : SV.Reduces [0] SL := by decide
theorem castL : SL.ShapeCasts SR := by decide
theorem castO : SR.ShapeCasts SO := by decide

variable {F : FTy → Type} [FloatOps F]

/-- One vector register's worth of the block: a value for every joint and every batch lane. -/
abbrev Vx (F : FTy → Type) [FloatOps F] : Type := FVec F SV .f32

/-- The constant with these bits, at every joint and lane. -/
abbrev con (x : BitVec 32) : Vx F := broadcast SV (Scalar.ofBits .f32 x : F .f32)

/-! ## The design matrix -/

/-- The image coordinate `k` of view `v` as loaded. -/
def ldP (x0 : Vec F SP .f32) (k : Fin 2) (v : Fin 8) : Vx F :=
  shapeCast SV (View.ld x0 (Rect.unit (s := SP) ![k.val, v.val, 0, 0] SP1.size (inP k v))) castP

/-- The entry `k, c` of view `v`'s projection matrix, at every joint. -/
def ldM (x1 : Vec F SM .f32) (v : Fin 8) (k : Fin 3) (c : Fin 4) : Vx F :=
  broadcastTo SV (shapeCast SR (View.ld x1 (Rect.unit (s := SM) ![v.val, k.val, c.val, 0] SM1.size (inM v k c))) castM) bcR

/-- View `v`'s weight. -/
def ldW (x2 : Vec F SW .f32) (v : Fin 8) : Vx F :=
  shapeCast SV (View.ld x2 (Rect.unit (s := SW) ![v.val, 0, 0] SW1.size (inW v))) castW

/-- The coordinate `k` of the true joint. -/
def ldG (x3 : Vec F SG .f32) (k : Fin 3) : Vx F :=
  shapeCast SV (View.ld x3 (Rect.unit (s := SG) ![k.val, 0, 0] SW1.size (inG k))) castW

/-- The image size along coordinate `k`, as bits. -/
def imgBits : Fin 2 → BitVec 32
  | 0 => 0x43C00000#32
  | 1 => 0x44000000#32

/-- The row of `A` that view `v` gives for coordinate `k`, at column `c`. -/
def ent (x0 : Vec F SP .f32) (x1 : Vec F SM .f32) (x2 : Vec F SW .f32) (v : Fin 8) (k : Fin 2) (c : Fin 4) : Vx F :=
  mulf (subf (mulf (mulf (mulf (addf (ldP x0 k v) (con 0x3F800000#32)) (con 0x3F000000#32)) (con (imgBits k))) (ldM x1 v 2 c))
    (ldM x1 v k.castSucc c)) (ldW x2 v)

/-- Column `c` of `A`: rows `2 v` and `2 v + 1` are view `v`'s. -/
def colA (x0 : Vec F SP .f32) (x1 : Vec F SM .f32) (x2 : Vec F SW .f32) (c : Fin 4) (r : Fin 16) : Vx F :=
  ent x0 x1 x2 ⟨r.val / 2, by omega⟩ ⟨r.val % 2, by omega⟩ c

/-! ## The sweeps -/

/-- A column of the rotated matrix, its squared norm as the kernel carries it, and the matching
    column of the accumulated rotations. -/
structure Col (F : FTy → Type) [FloatOps F] where
  a : Fin 16 → Vx F
  n : Vx F
  v : Fin 4 → Vx F

/-- The product of two columns, summed row after row. -/
def dot (x y : Fin 16 → Vx F) : Vx F :=
  addf (addf (addf (addf (addf (addf (addf (addf (addf (addf (addf (addf (addf (addf (addf (mulf (x 0) (y 0))
    (mulf (x 1) (y 1))) (mulf (x 2) (y 2))) (mulf (x 3) (y 3))) (mulf (x 4) (y 4))) (mulf (x 5) (y 5)))
    (mulf (x 6) (y 6))) (mulf (x 7) (y 7))) (mulf (x 8) (y 8))) (mulf (x 9) (y 9))) (mulf (x 10) (y 10)))
    (mulf (x 11) (y 11))) (mulf (x 12) (y 12))) (mulf (x 13) (y 13))) (mulf (x 14) (y 14))) (mulf (x 15) (y 15))

/-- `τ` of a rotation: half the cotangent's argument, the divisor replaced by one where it is zero. -/
def tauV (g n n' : Vx F) : Vx F :=
  divf (subf n' n) (select (cmpf .oeq (mulf (con 0x40000000#32) g) (con 0x00000000#32)) (con 0x3F800000#32) (mulf (con 0x40000000#32) g))

/-- The tangent of the rotation, from `τ`. -/
def tanV (tau : Vx F) : Vx F :=
  divf (select (cmpf .oge tau (con 0x00000000#32)) (con 0x3F800000#32) (con 0xBF800000#32))
    (addf (absf tau) (sqrt (addf (con 0x3F800000#32) (mulf tau tau))))

/-- The tangent the kernel uses: zero where the columns are orthogonal enough. -/
def tV (g n n' : Vx F) : Vx F :=
  select (cmpf .ole (mulf g g) (mulf (con 0x283424DC#32) (mulf n n'))) (con 0x00000000#32) (tanV (tauV g n n'))

/-- The cosine. -/
def cV (t : Vx F) : Vx F := rsqrt (addf (con 0x3F800000#32) (mulf t t))

/-- The first column of a pair after its rotation, -/
def rotL (p q : Col F) : Col F where
  a r := subf (mulf (cV (tV (dot p.a q.a) p.n q.n)) (p.a r)) (mulf (mulf (tV (dot p.a q.a) p.n q.n) (cV (tV (dot p.a q.a) p.n q.n))) (q.a r))
  n := subf p.n (mulf (tV (dot p.a q.a) p.n q.n) (dot p.a q.a))
  v i := subf (mulf (cV (tV (dot p.a q.a) p.n q.n)) (p.v i)) (mulf (mulf (tV (dot p.a q.a) p.n q.n) (cV (tV (dot p.a q.a) p.n q.n))) (q.v i))

/-- and the second. -/
def rotR (p q : Col F) : Col F where
  a r := addf (mulf (mulf (tV (dot p.a q.a) p.n q.n) (cV (tV (dot p.a q.a) p.n q.n))) (p.a r)) (mulf (cV (tV (dot p.a q.a) p.n q.n)) (q.a r))
  n := addf q.n (mulf (tV (dot p.a q.a) p.n q.n) (dot p.a q.a))
  v i := addf (mulf (mulf (tV (dot p.a q.a) p.n q.n) (cV (tV (dot p.a q.a) p.n q.n))) (p.v i)) (mulf (cV (tV (dot p.a q.a) p.n q.n)) (q.v i))

/-- The four columns. -/
structure St (F : FTy → Type) [FloatOps F] where
  c0 : Col F
  c1 : Col F
  c2 : Col F
  c3 : Col F

def rot01 (s : St F) : St F := ⟨rotL s.c0 s.c1, rotR s.c0 s.c1, s.c2, s.c3⟩
def rot02 (s : St F) : St F := ⟨rotL s.c0 s.c2, s.c1, rotR s.c0 s.c2, s.c3⟩
def rot03 (s : St F) : St F := ⟨rotL s.c0 s.c3, s.c1, s.c2, rotR s.c0 s.c3⟩
def rot12 (s : St F) : St F := ⟨s.c0, rotL s.c1 s.c2, rotR s.c1 s.c2, s.c3⟩
def rot13 (s : St F) : St F := ⟨s.c0, rotL s.c1 s.c3, s.c2, rotR s.c1 s.c3⟩
def rot23 (s : St F) : St F := ⟨s.c0, s.c1, rotL s.c2 s.c3, rotR s.c2 s.c3⟩

/-- One sweep over the six pairs. -/
def sweep (s : St F) : St F := rot23 (rot13 (rot12 (rot03 (rot02 (rot01 s)))))

/-- A column before the sweeps: `A`'s, its norm, and the unit vector `k`. -/
def col0 (a : Fin 16 → Vx F) (v : Fin 4 → Vx F) : Col F := ⟨a, dot a a, v⟩

/-- The columns before the sweeps. -/
def init (A : Fin 4 → Fin 16 → Vx F) : St F where
  c0 := col0 (A 0) ![con 0x3F800000#32, con 0x00000000#32, con 0x00000000#32, con 0x00000000#32]
  c1 := col0 (A 1) ![con 0x00000000#32, con 0x3F800000#32, con 0x00000000#32, con 0x00000000#32]
  c2 := col0 (A 2) ![con 0x00000000#32, con 0x00000000#32, con 0x3F800000#32, con 0x00000000#32]
  c3 := col0 (A 3) ![con 0x00000000#32, con 0x00000000#32, con 0x00000000#32, con 0x3F800000#32]

/-! ## The carried tuple -/

/-- The kernel's loop carries the columns as one tuple of eighty-four values. -/
abbrev Tup (F : FTy → Type) [FloatOps F] : Type :=
  Vx F × Vx F × Vx F × Vx F × Vx F × Vx F × Vx F × Vx F × Vx F × Vx F × Vx F × Vx F × Vx F × Vx F × Vx F × Vx F × Vx F × Vx F × Vx F × Vx F × Vx F ×
  Vx F × Vx F × Vx F × Vx F × Vx F × Vx F × Vx F × Vx F × Vx F × Vx F × Vx F × Vx F × Vx F × Vx F × Vx F × Vx F × Vx F × Vx F × Vx F × Vx F × Vx F ×
  Vx F × Vx F × Vx F × Vx F × Vx F × Vx F × Vx F × Vx F × Vx F × Vx F × Vx F × Vx F × Vx F × Vx F × Vx F × Vx F × Vx F × Vx F × Vx F × Vx F × Vx F ×
  Vx F × Vx F × Vx F × Vx F × Vx F × Vx F × Vx F × Vx F × Vx F × Vx F × Vx F × Vx F × Vx F × Vx F × Vx F × Vx F × Vx F × Vx F × Vx F × Vx F × Vx F

/-- The columns of a tuple, -/
def ofTup (x : Tup F) : St F :=
  match x with
  | (a0, a1, a2, a3, a4, a5, a6, a7, a8, a9, a10, a11, a12, a13, a14, a15, a16, a17, a18, a19, a20, a21, a22, a23, a24, a25, a26, a27, a28, a29, a30,
  a31, a32, a33, a34, a35, a36, a37, a38, a39, a40, a41, a42, a43, a44, a45, a46, a47, a48, a49, a50, a51, a52, a53, a54, a55, a56, a57, a58, a59,
  a60, a61, a62, a63, n0, n1, n2, n3, v00, v01, v02, v03, v10, v11, v12, v13, v20, v21, v22, v23, v30, v31, v32, v33) =>
    ⟨⟨![a0, a1, a2, a3, a4, a5, a6, a7, a8, a9, a10, a11, a12, a13, a14, a15],
        n0, ![v00, v10, v20, v30]⟩,
      ⟨![a16, a17, a18, a19, a20, a21, a22, a23, a24, a25, a26, a27, a28, a29, a30, a31],
        n1, ![v01, v11, v21, v31]⟩,
      ⟨![a32, a33, a34, a35, a36, a37, a38, a39, a40, a41, a42, a43, a44, a45, a46, a47],
        n2, ![v02, v12, v22, v32]⟩,
      ⟨![a48, a49, a50, a51, a52, a53, a54, a55, a56, a57, a58, a59, a60, a61, a62, a63],
        n3, ![v03, v13, v23, v33]⟩⟩

/-- and the tuple of the columns. -/
def toTup (s : St F) : Tup F :=
  (s.c0.a 0, s.c0.a 1, s.c0.a 2, s.c0.a 3, s.c0.a 4, s.c0.a 5, s.c0.a 6, s.c0.a 7, s.c0.a 8, s.c0.a 9, s.c0.a 10, s.c0.a 11, s.c0.a 12, s.c0.a 13,
  s.c0.a 14, s.c0.a 15, s.c1.a 0, s.c1.a 1, s.c1.a 2, s.c1.a 3, s.c1.a 4, s.c1.a 5, s.c1.a 6, s.c1.a 7, s.c1.a 8, s.c1.a 9, s.c1.a 10, s.c1.a 11,
  s.c1.a 12, s.c1.a 13, s.c1.a 14, s.c1.a 15, s.c2.a 0, s.c2.a 1, s.c2.a 2, s.c2.a 3, s.c2.a 4, s.c2.a 5, s.c2.a 6, s.c2.a 7, s.c2.a 8, s.c2.a 9,
  s.c2.a 10, s.c2.a 11, s.c2.a 12, s.c2.a 13, s.c2.a 14, s.c2.a 15, s.c3.a 0, s.c3.a 1, s.c3.a 2, s.c3.a 3, s.c3.a 4, s.c3.a 5, s.c3.a 6, s.c3.a 7,
  s.c3.a 8, s.c3.a 9, s.c3.a 10, s.c3.a 11, s.c3.a 12, s.c3.a 13, s.c3.a 14, s.c3.a 15, s.c0.n, s.c1.n, s.c2.n, s.c3.n, s.c0.v 0, s.c1.v 0, s.c2.v 0,
  s.c3.v 0, s.c0.v 1, s.c1.v 1, s.c2.v 1, s.c3.v 1, s.c0.v 2, s.c1.v 2, s.c2.v 2, s.c3.v 2, s.c0.v 3, s.c1.v 3, s.c2.v 3, s.c3.v 3)

/-- A tuple is the tuple of its columns, -/
theorem toTup_ofTup (x : Tup F) : toTup (ofTup x) = x := rfl

theorem vec16_eta (f : Fin 16 → Vx F) :
    ![f 0, f 1, f 2, f 3, f 4, f 5, f 6, f 7, f 8, f 9, f 10, f 11, f 12, f 13, f 14, f 15] = f := by
  funext i; fin_cases i <;> rfl

theorem vec4_eta (f : Fin 4 → Vx F) : ![f 0, f 1, f 2, f 3] = f := by
  funext i; fin_cases i <;> rfl

/-- and columns are the columns of their tuple. -/
theorem ofTup_toTup (s : St F) : ofTup (toTup s) = s := by
  obtain ⟨⟨a0, n0, u0⟩, ⟨a1, n1, u1⟩, ⟨a2, n2, u2⟩, ⟨a3, n3, u3⟩⟩ := s
  dsimp only [toTup, ofTup]
  simp only [vec16_eta, vec4_eta]

/-- The columns after `n` sweeps. -/
def swept (s : St F) (n : Nat) : St F := sweep^[n] s

/-- The loop's fold is the sweeps. -/
theorem fold_swept (n : Nat) (s : St F) :
    Scf.fold (n := n) (fun _ acc => toTup (sweep (ofTup acc))) (toTup s) = toTup (swept s n) := by
  have h : ∀ (l : List (Fin n)) (s : St F),
      l.foldl (fun acc _ => toTup (sweep (ofTup acc))) (toTup s) = toTup (sweep^[l.length] s) := by
    intro l
    induction l with
    | nil => intro s; rfl
    | cons k l ih => intro s; rw [List.foldl_cons, ofTup_toTup, ih]; rfl
  rw [Scf.fold_eq, h, List.length_finRange]; rfl

/-! ## After the sweeps -/

/-- The smallest squared norm. -/
def lamV (s : St F) : Vx F := minimumf (minimumf (minimumf s.c0.n s.c1.n) s.c2.n) s.c3.n

/-- Component `i` of the column of the rotations whose norm is smallest. -/
def pickV (s : St F) (i : Fin 4) : Vx F :=
  select (cmpf .olt s.c3.n (minimumf (minimumf s.c0.n s.c1.n) s.c2.n)) (s.c3.v i)
    (select (cmpf .olt s.c2.n (minimumf s.c0.n s.c1.n)) (s.c2.v i)
      (select (cmpf .olt s.c1.n s.c0.n) (s.c1.v i) (s.c0.v i)))

/-- An entry of the Gram matrix, summed from zero row after row. -/
def gramV (x y : Fin 16 → Vx F) : Vx F :=
  addf (addf (addf (addf (addf (addf (addf (addf (addf (addf (addf (addf (addf (addf (addf (addf (con 0x00000000#32) (mulf (x 0) (y 0)))
    (mulf (x 1) (y 1))) (mulf (x 2) (y 2))) (mulf (x 3) (y 3))) (mulf (x 4) (y 4))) (mulf (x 5) (y 5)))
    (mulf (x 6) (y 6))) (mulf (x 7) (y 7))) (mulf (x 8) (y 8))) (mulf (x 9) (y 9))) (mulf (x 10) (y 10)))
    (mulf (x 11) (y 11))) (mulf (x 12) (y 12))) (mulf (x 13) (y 13))) (mulf (x 14) (y 14))) (mulf (x 15) (y 15))

/-- A sum of four products, from zero. -/
def sum4 (x0 x1 x2 x3 y0 y1 y2 y3 : Vx F) : Vx F :=
  addf (addf (addf (addf (con 0x00000000#32) (mulf x0 y0)) (mulf x1 y1)) (mulf x2 y2)) (mulf x3 y3)

/-- `M x`, row by row, from the upper triangle of `M`. -/
def hV (A : Fin 4 → Fin 16 → Vx F) (x : Fin 4 → Vx F) : Fin 4 → Vx F := ![
  sum4 (gramV (A 0) (A 0)) (gramV (A 0) (A 1)) (gramV (A 0) (A 2)) (gramV (A 0) (A 3)) (x 0) (x 1) (x 2) (x 3),
  sum4 (gramV (A 0) (A 1)) (gramV (A 1) (A 1)) (gramV (A 1) (A 2)) (gramV (A 1) (A 3)) (x 0) (x 1) (x 2) (x 3),
  sum4 (gramV (A 0) (A 2)) (gramV (A 1) (A 2)) (gramV (A 2) (A 2)) (gramV (A 2) (A 3)) (x 0) (x 1) (x 2) (x 3),
  sum4 (gramV (A 0) (A 3)) (gramV (A 1) (A 3)) (gramV (A 2) (A 3)) (gramV (A 3) (A 3)) (x 0) (x 1) (x 2) (x 3)]

/-- The coefficient of one column in the correction, -/
def coefV (h : Fin 4 → Vx F) (lam : Vx F) (k : Col F) : Vx F :=
  select (cmpf .ogt k.n lam)
    (divf (subf (con 0x00000000#32) (sum4 (h 0) (h 1) (h 2) (h 3) (k.v 0) (k.v 1) (k.v 2) (k.v 3)))
      (select (cmpf .ogt k.n lam) k.n (con 0x3F800000#32)))
    (con 0x00000000#32)

/-- cut off where it is not small. -/
def cutV (t : Vx F) : Vx F :=
  select (cmpf .olt (absf t) (con 0x3C23D70A#32)) t (con 0x00000000#32)

/-- One column's correction of the solution. -/
def stepV (h : Fin 4 → Vx F) (lam : Vx F) (k : Col F) (x : Fin 4 → Vx F) (i : Fin 4) : Vx F :=
  addf (x i) (mulf (cutV (coefV h lam k)) (k.v i))

/-- The corrected solution. -/
def solV (A : Fin 4 → Fin 16 → Vx F) (s : St F) : Fin 4 → Vx F :=
  stepV (hV A (pickV s)) (lamV s) s.c3 (stepV (hV A (pickV s)) (lamV s) s.c2
    (stepV (hV A (pickV s)) (lamV s) s.c1 (stepV (hV A (pickV s)) (lamV s) s.c0 (pickV s))))

/-- The loss of one coordinate, from the distance. -/
def lossV (d : Vx F) : Vx F :=
  select (cmpf .olt d (con 0x3D4CCCCD#32)) (mulf (mulf (con 0x41200000#32) d) d) (subf d (con 0x3CCCCCCD#32))

/-- The distance to the true joint along coordinate `k`. -/
def distV (x3 : Vec F SG .f32) (x : Fin 4 → Vx F) (k : Fin 3) : Vx F :=
  absf (subf (mulf (x k.castSucc) (divf (con 0x3F800000#32) (x 3))) (ldG x3 k))

/-- The loss at every joint and lane. -/
def totalV (x0 : Vec F SP .f32) (x1 : Vec F SM .f32) (x2 : Vec F SW .f32) (x3 : Vec F SG .f32) (n : Nat) : Vx F :=
  addf (addf (lossV (distV x3 (solV (colA x0 x1 x2) (swept (init (colA x0 x1 x2)) n)) 0))
    (lossV (distV x3 (solV (colA x0 x1 x2) (swept (init (colA x0 x1 x2)) n)) 1)))
    (lossV (distV x3 (solV (colA x0 x1 x2) (swept (init (colA x0 x1 x2)) n)) 2))

/-- What the body stores: the losses summed over the joints. -/
def outV (x0 : Vec F SP .f32) (x1 : Vec F SM .f32) (x2 : Vec F SW .f32) (x3 : Vec F SG .f32) (n : Nat) : FVec F SO .f32 :=
  shapeCast SO (shapeCast SR (multiReduction .add [0] SL (totalV x0 x1 x2 x3 n) 0x00000000#32 redV (.inl rfl) rfl) castL) castO

end Cert.Proof.Body

end
-- ==== Proof.TripI.lean ====
module

public import proofs.«01_k».proof.Proof.Gen.KernelIdeal.Frame
public import proofs.«01_k».proof.Proof.Gen.KernelIdeal.Skeleton
public import proofs.«01_k».proof.Proof.Body

@[expose] public section

noncomputable section

namespace Cert.Proof.KI

open Cert.KernelIdeal Cert.KernelIdeal.Gen
open Idealize.ShloMosaic Idealize.SL.Sem
open Cert.Proof.Body (toTup ofTup sweep St)

variable {F : FTy → Type} [FloatOps F]

set_option maxHeartbeats 0 in
/-- A trip of the sweep loop returns the swept columns. -/
theorem trip_eq (i : grid0.Coords) (arg1 : Memref sig .tc .vmem S2x8x32x1024 .f32) (harg1 : arg1.IsWhole) (arg2 : Memref sig .tc .vmem S8x3x4x1024 .f32) (harg2 : arg2.IsWhole) (arg3 : Memref sig .tc .vmem S8x32x1024 .f32) (harg3 : arg3.IsWhole) (arg4 : Memref sig .tc .vmem S3x32x1024 .f32) (harg4 : arg4.IsWhole) (arg5 : Memref sig .tc .vmem S1x1x1024 .f32) (harg5 : arg5.IsWhole)
    (v28 v33 v44 v49 v60 v65 v76 v81 v110 v115 v126 v131 v142 v147 v158 v163 v192 v197 v208 v213 v224 v229 v240 v245 v274 v279 v290 v295 v306 v311 v322 v327 v356 v361 v372 v377 v388 v393 v404 v409 v438 v443 v454 v459 v470 v475 v486 v491 v520 v525 v536 v541 v552 v557 v568 v573 v602 v607 v618 v623 v634 v639 v650 v655 v686 v717 v738 : FVec F S32x1024 .f32) (k : Fin k0_t1_loop.trips) (s : St F) :
    k0_t1_body (F := F) i arg1 harg1 arg2 harg2 arg3 harg3 arg4 harg4 arg5 harg5 v28 v33 v44 v49 v60 v65 v76 v81 v110 v115 v126 v131 v142 v147 v158 v163 v192 v197 v208 v213 v224 v229 v240 v245 v274 v279 v290 v295 v306 v311 v322 v327 v356 v361 v372 v377 v388 v393 v404 v409 v438 v443 v454 v459 v470 v475 v486 v491 v520 v525 v536 v541 v552 v557 v568 v573 v602 v607 v618 v623 v634 v639 v650 v655 v686 v717 v738 k (toTup s) = .ret (toTup (sweep s)) := by
  obtain ⟨⟨a0, n0, u0⟩, ⟨a1, n1, u1⟩, ⟨a2, n2, u2⟩, ⟨a3, n3, u3⟩⟩ := s
  dsimp only [toTup]
  dsimp only [k0_t1_body, k0_part20_eq_skeleton, k0_part20_skel]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  dsimp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel]
  dsimp only [pure, bind, Prog.bind]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay451]
  dsimp only [sweep, Body.rot01, Body.rot02, Body.rot03, Body.rot12, Body.rot13, Body.rot23, Body.rotL, Body.rotR, Body.dot, Body.tV, Body.tanV, Body.tauV, Body.cV, Body.con]
/-- A trip of the sweep loop, on any carried tuple. -/
theorem body_eq (i : grid0.Coords) (arg1 : Memref sig .tc .vmem S2x8x32x1024 .f32) (harg1 : arg1.IsWhole) (arg2 : Memref sig .tc .vmem S8x3x4x1024 .f32) (harg2 : arg2.IsWhole) (arg3 : Memref sig .tc .vmem S8x32x1024 .f32) (harg3 : arg3.IsWhole) (arg4 : Memref sig .tc .vmem S3x32x1024 .f32) (harg4 : arg4.IsWhole) (arg5 : Memref sig .tc .vmem S1x1x1024 .f32) (harg5 : arg5.IsWhole)
    (v28 v33 v44 v49 v60 v65 v76 v81 v110 v115 v126 v131 v142 v147 v158 v163 v192 v197 v208 v213 v224 v229 v240 v245 v274 v279 v290 v295 v306 v311 v322 v327 v356 v361 v372 v377 v388 v393 v404 v409 v438 v443 v454 v459 v470 v475 v486 v491 v520 v525 v536 v541 v552 v557 v568 v573 v602 v607 v618 v623 v634 v639 v650 v655 v686 v717 v738 : FVec F S32x1024 .f32) :
    k0_t1_body (F := F) i arg1 harg1 arg2 harg2 arg3 harg3 arg4 harg4 arg5 harg5 v28 v33 v44 v49 v60 v65 v76 v81 v110 v115 v126 v131 v142 v147 v158 v163 v192 v197 v208 v213 v224 v229 v240 v245 v274 v279 v290 v295 v306 v311 v322 v327 v356 v361 v372 v377 v388 v393 v404 v409 v438 v443 v454 v459 v470 v475 v486 v491 v520 v525 v536 v541 v552 v557 v568 v573 v602 v607 v618 v623 v634 v639 v650 v655 v686 v717 v738 = fun _ acc => .ret (toTup (sweep (ofTup acc))) := by
  funext k acc
  conv => lhs; rw [← Body.toTup_ofTup acc]
  exact trip_eq (k := k) (s := ofTup acc) ..

end Cert.Proof.KI

end
-- ==== Proof.FrameI.lean ====
/- The frame of the idealised kernel: its body's triple, the pipeline's proof data and the launch. The body's
   one store is `Body.outV` of the four input blocks. -/
module

public import proofs.«01_k».proof.Proof.Gen.KernelIdeal.Frame
public import proofs.«01_k».proof.Proof.Gen.KernelIdeal.Skeleton
public import proofs.«01_k».proof.Proof.Body
public import Idealize.ShloMosaic.Lib.Claim
public import proofs.«01_k».proof.Proof.TripI

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The store's window: the whole block. -/
abbrev rOut : Rect S1x1x1024 := (Rect.unit (s := S1x1x1024) ![0, 0, 0] S1x1x1024.size inb_S1x1x1024_S1x1x1024_0_0_0)

/-- The output block after the body, from the input blocks. -/
def out0_4 (x0 : Vec F S2x8x32x1024 .f32) (x1 : Vec F S8x3x4x1024 .f32) (x2 : Vec F S8x32x1024 .f32) (x3 : Vec F S3x32x1024 .f32) : Vec F S1x1x1024 .f32 :=
  View.canon [⟨rOut, Body.outV x0 x1 x2 x3 k0_t1_loop.trips⟩]

/-- Its stores tile the buffer (checked by evaluation), so they cover it. -/
theorem cover0_4 (p0 : Vec F S1x1x1024 .f32) (y : S1x1x1024.Idx) :
    ∃ pc ∈ ([⟨rOut, p0⟩] : List (View.Piece (Elt F) S1x1x1024 .f32)), y ∈ pc.1.set :=
  View.cover_of_tiled [⟨rOut, p0⟩] S1x1x1024.size (by rfl) y

/-! ## The body's triple -/

set_option maxHeartbeats 0 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S2x8x32x1024 .f32) (harg1 : arg1.IsWhole) (arg2 : Memref sig .tc .vmem S8x3x4x1024 .f32) (harg2 : arg2.IsWhole) (arg3 : Memref sig .tc .vmem S8x32x1024 .f32) (harg3 : arg3.IsWhole) (arg4 : Memref sig .tc .vmem S3x32x1024 .f32) (harg4 : arg4.IsWhole) (arg5 : Memref sig .tc .vmem S1x1x1024 .f32) (harg5 : arg5.IsWhole)
    (x0 : Vec F S2x8x32x1024 .f32) (x1 : Vec F S8x3x4x1024 .f32) (x2 : Vec F S8x32x1024 .f32) (x3 : Vec F S3x32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dlt_loss_kernel i arg1 harg1 arg2 harg2 arg3 harg3 arg4 harg4 arg5 harg5) K := by
  simp only [cc0__dlt_loss_kernel_eq_skeleton]; unfold cc0__dlt_loss_kernel_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  dsimp only [k0_part42_skel]
  simp only [body_eq, bind_assoc, pure_bind]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  refine congrArg (fun p => View.canon [⟨rOut, p⟩]) ?_
  have fold_is : sound_kernel.sl.r_115 c arg1 arg2 arg3 f0 f1 f2
      = Body.toTup (Body.swept (Body.init (Body.colA (View.read (Elt F) arg1.view f0) (View.read (Elt F) arg2.view f1) (View.read (Elt F) arg3.view f2))) k0_t1_loop.trips) := by
    unfold sound_kernel.sl.r_115
    refine Eq.trans (congrArg _ ?_) (Body.fold_swept _ _)
    rfl
  dsimp only [sound_kernel.sl.r_116, sound_kernel.sl.r_117, sound_kernel.sl.r_118, sound_kernel.sl.r_119, sound_kernel.sl.r_120, sound_kernel.sl.r_121, sound_kernel.sl.r_122, sound_kernel.sl.r_123, sound_kernel.sl.r_124, sound_kernel.sl.r_125, sound_kernel.sl.r_126, sound_kernel.sl.r_127, sound_kernel.sl.r_128, sound_kernel.sl.r_129, sound_kernel.sl.r_130, sound_kernel.sl.r_131, sound_kernel.sl.r_132, sound_kernel.sl.r_133, sound_kernel.sl.r_134, sound_kernel.sl.r_135, sound_kernel.sl.r_136, sound_kernel.sl.r_137, sound_kernel.sl.r_138, sound_kernel.sl.r_139, sound_kernel.sl.r_140, sound_kernel.sl.r_141, sound_kernel.sl.r_142, sound_kernel.sl.r_143, sound_kernel.sl.r_144, sound_kernel.sl.r_145, sound_kernel.sl.r_146, sound_kernel.sl.r_147, sound_kernel.sl.r_148, sound_kernel.sl.r_149, sound_kernel.sl.r_150, sound_kernel.sl.r_151, sound_kernel.sl.r_152, sound_kernel.sl.r_153, sound_kernel.sl.r_154, sound_kernel.sl.r_155, sound_kernel.sl.r_156, sound_kernel.sl.r_157, sound_kernel.sl.r_158, sound_kernel.sl.r_159, sound_kernel.sl.r_160, sound_kernel.sl.r_161, sound_kernel.sl.r_162, sound_kernel.sl.r_163, sound_kernel.sl.r_164, sound_kernel.sl.r_165, sound_kernel.sl.r_166, sound_kernel.sl.r_167, sound_kernel.sl.r_168, sound_kernel.sl.r_169, sound_kernel.sl.r_170, sound_kernel.sl.r_171, sound_kernel.sl.r_172, sound_kernel.sl.r_173, sound_kernel.sl.r_174, sound_kernel.sl.r_175, sound_kernel.sl.r_176, sound_kernel.sl.r_177, sound_kernel.sl.r_178, sound_kernel.sl.r_179, sound_kernel.sl.r_180, sound_kernel.sl.r_181, sound_kernel.sl.r_182, sound_kernel.sl.r_183, sound_kernel.sl.r_184, sound_kernel.sl.r_185, sound_kernel.sl.r_186, sound_kernel.sl.r_187, sound_kernel.sl.r_188, sound_kernel.sl.r_189, sound_kernel.sl.r_190, sound_kernel.sl.r_191, sound_kernel.sl.r_192, sound_kernel.sl.r_193, sound_kernel.sl.r_194, sound_kernel.sl.r_195, sound_kernel.sl.r_196, sound_kernel.sl.r_197, sound_kernel.sl.r_198, sound_kernel.sl.r_199, sound_kernel.sl.r_200, sound_kernel.sl.r_201, sound_kernel.sl.r_202, sound_kernel.sl.r_203, sound_kernel.sl.r_204, sound_kernel.sl.r_205, sound_kernel.sl.r_206, sound_kernel.sl.r_207, sound_kernel.sl.r_208, sound_kernel.sl.r_209, sound_kernel.sl.r_210, sound_kernel.sl.r_211, sound_kernel.sl.r_212, sound_kernel.sl.r_213, sound_kernel.sl.r_214, sound_kernel.sl.r_215, sound_kernel.sl.r_216, sound_kernel.sl.r_217, sound_kernel.sl.r_218, sound_kernel.sl.r_219, sound_kernel.sl.r_220, sound_kernel.sl.r_221, sound_kernel.sl.r_222, sound_kernel.sl.r_223, sound_kernel.sl.r_224, sound_kernel.sl.r_225, sound_kernel.sl.r_226, sound_kernel.sl.r_227, sound_kernel.sl.r_228, sound_kernel.sl.r_229, sound_kernel.sl.r_230, sound_kernel.sl.r_231, sound_kernel.sl.r_232, sound_kernel.sl.r_233, sound_kernel.sl.r_234, sound_kernel.sl.r_235, sound_kernel.sl.r_236, sound_kernel.sl.r_237, sound_kernel.sl.r_238, sound_kernel.sl.r_239, sound_kernel.sl.r_240, sound_kernel.sl.r_241, sound_kernel.sl.r_242, sound_kernel.sl.r_243, sound_kernel.sl.r_244, sound_kernel.sl.r_245, sound_kernel.sl.r_246, sound_kernel.sl.r_247, sound_kernel.sl.r_248, sound_kernel.sl.r_249, sound_kernel.sl.r_250, sound_kernel.sl.r_251, sound_kernel.sl.r_252, sound_kernel.sl.r_253, sound_kernel.sl.r_254, sound_kernel.sl.r_255, sound_kernel.sl.r_256, sound_kernel.sl.r_257, sound_kernel.sl.r_258, sound_kernel.sl.r_259, sound_kernel.sl.r_260, sound_kernel.sl.r_261, sound_kernel.sl.r_262, sound_kernel.sl.r_263, sound_kernel.sl.r_264, sound_kernel.sl.r_265, sound_kernel.sl.r_266, sound_kernel.sl.r_267, sound_kernel.sl.r_268, sound_kernel.sl.r_269, sound_kernel.sl.r_270, sound_kernel.sl.r_271, sound_kernel.sl.r_272, sound_kernel.sl.r_273, sound_kernel.sl.r_274, sound_kernel.sl.r_275, sound_kernel.sl.r_276, sound_kernel.sl.r_277, sound_kernel.sl.r_278, sound_kernel.sl.r_279, sound_kernel.sl.r_280, sound_kernel.sl.r_281, sound_kernel.sl.r_282, sound_kernel.sl.r_283, sound_kernel.sl.r_284, sound_kernel.sl.r_285, sound_kernel.sl.r_286, sound_kernel.sl.r_287, sound_kernel.sl.r_288, sound_kernel.sl.r_289, sound_kernel.sl.r_290, sound_kernel.sl.r_291, sound_kernel.sl.r_292, sound_kernel.sl.r_293, sound_kernel.sl.r_294, sound_kernel.sl.r_295, sound_kernel.sl.r_296, sound_kernel.sl.r_297, sound_kernel.sl.r_298, sound_kernel.sl.r_299, sound_kernel.sl.r_300, sound_kernel.sl.r_301, sound_kernel.sl.r_302, sound_kernel.sl.r_303, sound_kernel.sl.r_304, sound_kernel.sl.r_305, sound_kernel.sl.r_306, sound_kernel.sl.r_307, sound_kernel.sl.r_308, sound_kernel.sl.r_309, sound_kernel.sl.r_310, sound_kernel.sl.r_311, sound_kernel.sl.r_312, sound_kernel.sl.r_313, sound_kernel.sl.r_314, sound_kernel.sl.r_315, sound_kernel.sl.r_316, sound_kernel.sl.r_317, sound_kernel.sl.r_318, sound_kernel.sl.r_319, sound_kernel.sl.r_320, sound_kernel.sl.r_321, sound_kernel.sl.r_322, sound_kernel.sl.r_323, sound_kernel.sl.r_324, sound_kernel.sl.r_325, sound_kernel.sl.r_326, sound_kernel.sl.r_327, sound_kernel.sl.r_328, sound_kernel.sl.r_329, sound_kernel.sl.r_330, sound_kernel.sl.r_331, sound_kernel.sl.r_332, sound_kernel.sl.r_333, sound_kernel.sl.r_334, sound_kernel.sl.r_335, sound_kernel.sl.r_336, sound_kernel.sl.r_337, sound_kernel.sl.r_338, sound_kernel.sl.r_339, sound_kernel.sl.r_340, sound_kernel.sl.r_341, sound_kernel.sl.r_342, sound_kernel.sl.r_343, sound_kernel.sl.r_344, sound_kernel.sl.r_345, sound_kernel.sl.r_346, sound_kernel.sl.r_347, sound_kernel.sl.r_348, sound_kernel.sl.r_349, sound_kernel.sl.r_350]
  simp only [fold_is]
  clear fold_is
  dsimp only [Body.outV, Body.totalV]
  generalize (Body.swept _ _ : Body.St F) = s
  obtain ⟨⟨a0, n0, u0⟩, ⟨a1, n1, u1⟩, ⟨a2, n2, u2⟩, ⟨a3, n3, u3⟩⟩ := s
  dsimp only [Body.toTup]
  dsimp only [k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740]
  dsimp only [Body.lossV, Body.distV, Body.solV, Body.stepV, Body.hV, Body.cutV, Body.coefV, Body.lamV, Body.pickV, Body.sum4, Body.gramV, Body.con]
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KI

end
-- ==== Proof.Rl.lean ====
/- The sweeps over the reals: one rotation of a pair of columns, what it does to the squared norms,
   the relation of the rotated columns to the accumulated rotations, and the corrected solution. A
   column of the design matrix with an infinite entry is never rotated: it is marked, and stands as
   a column of zeros whose norm is infinite. -/
module

public import Idealize.ShloMosaic.Init
public import Mathlib.Analysis.Real.Sqrt
public import Mathlib.Tactic.LinearCombination
public import Mathlib.Tactic.FieldSimp
public import Mathlib.Tactic.Positivity
public import Mathlib.Tactic.Linarith
public import Mathlib.Data.EReal.Operations

@[expose] public section

noncomputable section

namespace Cert.Proof.Rl

/-- A column of sixteen rows, the matching column of the rotations, and whether it has an infinite entry. -/
structure Col where
  a : Fin 16 → ℝ
  v : Fin 4 → ℝ
  inf : Bool

def dot (x y : Fin 16 → ℝ) : ℝ := ∑ r, x r * y r

/-- A column's squared norm over the reals, -/
def Col.n (p : Col) : ℝ := dot p.a p.a

/-- and the norm it has. -/
def Col.N (p : Col) : EReal := if p.inf then ⊤ else (p.n : EReal)

/-- The bound under which two columns count as orthogonal. -/
def tol : ℝ := 11805916 * (2 : ℝ) ^ (-70 : ℤ)

theorem tol_nonneg : 0 ≤ tol := by unfold tol; positivity

def tau (g n n' : ℝ) : ℝ := (n' - n) / (2 * g)
def tan (x : ℝ) : ℝ := (if 0 ≤ x then 1 else -1) / (|x| + √(1 + x * x))
/-- The tangent of a rotation. -/
def tn (g n n' : ℝ) : ℝ := if g * g ≤ tol * (n * n') then 0 else tan (tau g n n')
/-- The cosine of a tangent. -/
def cs (t : ℝ) : ℝ := (√(1 + t * t))⁻¹

/-- The tangent of the rotation of two columns. -/
def tt (p q : Col) : ℝ := if p.inf || q.inf then 0 else tn (dot p.a q.a) p.n q.n

def rotL (p q : Col) : Col where
  a r := cs (tt p q) * p.a r - tt p q * cs (tt p q) * q.a r
  v r := cs (tt p q) * p.v r - tt p q * cs (tt p q) * q.v r
  inf := p.inf
def rotR (p q : Col) : Col where
  a r := tt p q * cs (tt p q) * p.a r + cs (tt p q) * q.a r
  v r := tt p q * cs (tt p q) * p.v r + cs (tt p q) * q.v r
  inf := q.inf

theorem dot_nonneg (x : Fin 16 → ℝ) : 0 ≤ dot x x :=
  Finset.sum_nonneg fun _ _ => mul_self_nonneg _

theorem Col.n_nonneg (p : Col) : 0 ≤ p.n := dot_nonneg _

theorem tn_zero (n n' : ℝ) (hn : 0 ≤ n) (hn' : 0 ≤ n') : tn 0 n n' = 0 := by
  unfold tn
  rw [if_pos]
  have := mul_nonneg tol_nonneg (mul_nonneg hn hn')
  simpa using this

theorem cs_sq (t : ℝ) : cs t * cs t * (1 + t * t) = 1 := by
  have h : (0 : ℝ) < 1 + t * t := by nlinarith [mul_self_nonneg t]
  unfold cs
  rw [← mul_inv, Real.mul_self_sqrt h.le, inv_mul_cancel₀ h.ne']

theorem root_eq (y w : ℝ) (h : w * w = 1 + y * y) (hd : y + w ≠ 0) :
    1 / (y + w) * (1 / (y + w)) + 2 * y * (1 / (y + w)) - 1 = 0 := by
  have e : (1 / (y + w)) * (y + w) = 1 := one_div_mul_cancel hd
  generalize 1 / (y + w) = u at e ⊢
  linear_combination (u * (w - y) + 1) * e - u * u * h

/-- The tangent solves the rotation's equation. -/
theorem tan_eq (x : ℝ) : tan x * tan x + 2 * x * tan x - 1 = 0 := by
  have h : (0 : ℝ) < 1 + x * x := by nlinarith [mul_self_nonneg x]
  have hs : 0 < √(1 + x * x) := Real.sqrt_pos.mpr h
  have hq : √(1 + x * x) * √(1 + x * x) = 1 + x * x := Real.mul_self_sqrt h.le
  unfold tan
  by_cases hx : 0 ≤ x
  · rw [if_pos hx, abs_of_nonneg hx]
    exact root_eq x _ hq (by positivity)
  · have hx' : 0 < -x := by linarith [lt_of_not_ge hx]
    rw [if_neg hx, abs_of_neg (by linarith)]
    have k := root_eq (-x) _ (by rw [hq]; ring) (by positivity : -x + √(1 + x * x) ≠ 0)
    rw [neg_div]
    linear_combination k

/-- What makes a rotation turn the two columns orthogonal, or leave them as they are. -/
theorem tn_eq (g n n' : ℝ) (hn : 0 ≤ n) (hn' : 0 ≤ n') :
    g * (tn g n n' * tn g n n') + (n' - n) * tn g n n' - g * (if tn g n n' = 0 then 0 else 1) = 0 := by
  by_cases h : tn g n n' = 0
  · rw [if_pos h, h]; ring
  · rw [if_neg h]
    have hg : g ≠ 0 := by rintro rfl; exact h (tn_zero n n' hn hn')
    have e : tn g n n' = tan (tau g n n') := by
      unfold tn at h ⊢
      split_ifs at h ⊢
      · exact absurd rfl h
      · rfl
    have k := tan_eq (tau g n n')
    rw [← e] at k
    have k2 : g * (tn g n n' * tn g n n' + 2 * tau g n n' * tn g n n' - 1) = 0 := by rw [k, mul_zero]
    have k3 : 2 * g * tau g n n' = n' - n := by unfold tau; field_simp
    linear_combination k2 - tn g n n' * k3

/-- The same of a pair of columns. -/
theorem tt_eq (p q : Col) :
    dot p.a q.a * (tt p q * tt p q) + (q.n - p.n) * tt p q - dot p.a q.a * (if tt p q = 0 then 0 else 1) = 0 := by
  unfold tt
  split_ifs with h1 h2 h3
  · ring
  · exact absurd rfl h2
  · rw [h3]; ring
  · have := tn_eq (dot p.a q.a) p.n q.n p.n_nonneg q.n_nonneg
    rwa [if_neg h3] at this

theorem cs_zero : cs 0 = 1 := by simp [cs]

/-- A rotation by nothing leaves both columns. -/
theorem rotL_zero {p q : Col} (h : tt p q = 0) : rotL p q = p := by
  unfold rotL
  rw [h, cs_zero]
  simp
theorem rotR_zero {p q : Col} (h : tt p q = 0) : rotR p q = q := by
  unfold rotR
  rw [h, cs_zero]
  simp

theorem dot_lin (x y : Fin 16 → ℝ) (c s : ℝ) :
    dot (fun r => c * x r - s * y r) (fun r => c * x r - s * y r) = c * c * dot x x - 2 * c * s * dot x y + s * s * dot y y := by
  unfold dot
  simp only [Finset.mul_sum, ← Finset.sum_sub_distrib, ← Finset.sum_add_distrib]
  exact Finset.sum_congr rfl fun r _ => by ring

/-- The squared norms after a rotation, as the kernel carries them. -/
theorem rotL_n (p q : Col) : (rotL p q).n = p.n - tt p q * dot p.a q.a := by
  have h1 := cs_sq (tt p q)
  have h2 := tt_eq p q
  have e : (rotL p q).a = fun r => cs (tt p q) * p.a r - tt p q * cs (tt p q) * q.a r := rfl
  unfold Col.n
  rw [e, dot_lin]
  change _ * p.n - _ + _ * q.n = p.n - _
  by_cases h : tt p q = 0
  · rw [h] at h1 ⊢
    linear_combination p.n * h1
  · rw [if_neg h] at h2
    generalize dot p.a q.a = g at *
    generalize p.n = n at *
    generalize q.n = n' at *
    generalize tt p q = t at *
    generalize cs t = c at *
    linear_combination (n - t * g) * h1 + c * c * t * h2

theorem rotR_n (p q : Col) : (rotR p q).n = q.n + tt p q * dot p.a q.a := by
  have h1 := cs_sq (tt p q)
  have h2 := tt_eq p q
  have e : (rotR p q).a = fun r => tt p q * cs (tt p q) * p.a r - (-cs (tt p q)) * q.a r := by
    funext r; change _ + _ = _; ring
  unfold Col.n
  rw [e, dot_lin]
  change _ * p.n - _ + _ * q.n = q.n + _
  by_cases h : tt p q = 0
  · rw [h] at h1 ⊢
    linear_combination q.n * h1
  · rw [if_neg h] at h2
    generalize dot p.a q.a = g at *
    generalize p.n = n at *
    generalize q.n = n' at *
    generalize tt p q = t at *
    generalize cs t = c at *
    linear_combination (n' + t * g) * h1 - c * c * t * h2

structure St where
  c0 : Col
  c1 : Col
  c2 : Col
  c3 : Col

def rot01 (s : St) : St := ⟨rotL s.c0 s.c1, rotR s.c0 s.c1, s.c2, s.c3⟩
def rot02 (s : St) : St := ⟨rotL s.c0 s.c2, s.c1, rotR s.c0 s.c2, s.c3⟩
def rot03 (s : St) : St := ⟨rotL s.c0 s.c3, s.c1, s.c2, rotR s.c0 s.c3⟩
def rot12 (s : St) : St := ⟨s.c0, rotL s.c1 s.c2, rotR s.c1 s.c2, s.c3⟩
def rot13 (s : St) : St := ⟨s.c0, rotL s.c1 s.c3, s.c2, rotR s.c1 s.c3⟩
def rot23 (s : St) : St := ⟨s.c0, s.c1, rotL s.c2 s.c3, rotR s.c2 s.c3⟩

def sweep (s : St) : St := rot23 (rot13 (rot12 (rot03 (rot02 (rot01 s)))))

/-- Whether a column has an infinite entry. -/
def isInf (x : Fin 16 → EReal) : Bool := by
  classical exact decide (∃ r, x r = ⊤ ∨ x r = ⊥)

/-- The reals of a column, zeros if it has an infinite entry. -/
def reals (x : Fin 16 → EReal) (r : Fin 16) : ℝ := if isInf x then 0 else (x r).toReal

/-- The columns before the sweeps. -/
def init (A : Fin 4 → Fin 16 → EReal) : St :=
  ⟨⟨reals (A 0), ![1, 0, 0, 0], isInf (A 0)⟩, ⟨reals (A 1), ![0, 1, 0, 0], isInf (A 1)⟩,
    ⟨reals (A 2), ![0, 0, 1, 0], isInf (A 2)⟩, ⟨reals (A 3), ![0, 0, 0, 1], isInf (A 3)⟩⟩

/-! ## A column is `A` times its column of the rotations -/

/-- The column is `A` times its column of the rotations, which has no part in the marked columns
    unless it is marked itself. -/
structure Of (A : Fin 4 → Fin 16 → EReal) (p : Col) : Prop where
  eq : ∀ r, p.a r = ∑ c, reals (A c) r * p.v c
  z : p.inf = false → ∀ c, isInf (A c) = true → p.v c = 0

theorem tt_inf {p q : Col} (h : p.inf = true ∨ q.inf = true) : tt p q = 0 := by
  unfold tt
  rw [if_pos]
  rcases h with h | h <;> simp [h]

theorem Of.rotL {A : Fin 4 → Fin 16 → EReal} {p q : Col} (hp : Of A p) (hq : Of A q) : Of A (rotL p q) := by
  constructor
  · intro r
    change cs (tt p q) * p.a r - tt p q * cs (tt p q) * q.a r = ∑ c, reals (A c) r * (cs (tt p q) * p.v c - tt p q * cs (tt p q) * q.v c)
    rw [hp.eq r, hq.eq r, Finset.mul_sum, Finset.mul_sum, ← Finset.sum_sub_distrib]
    exact Finset.sum_congr rfl fun c _ => by ring
  · intro h c hc
    by_cases hi : q.inf = true
    · rw [rotL_zero (tt_inf (.inr hi))]; exact hp.z h c hc
    · change cs (tt p q) * p.v c - tt p q * cs (tt p q) * q.v c = 0
      rw [hp.z h c hc, hq.z (Bool.eq_false_iff.mpr hi) c hc, mul_zero, mul_zero, sub_zero]

theorem Of.rotR {A : Fin 4 → Fin 16 → EReal} {p q : Col} (hp : Of A p) (hq : Of A q) : Of A (rotR p q) := by
  constructor
  · intro r
    change tt p q * cs (tt p q) * p.a r + cs (tt p q) * q.a r = ∑ c, reals (A c) r * (tt p q * cs (tt p q) * p.v c + cs (tt p q) * q.v c)
    rw [hp.eq r, hq.eq r, Finset.mul_sum, Finset.mul_sum, ← Finset.sum_add_distrib]
    exact Finset.sum_congr rfl fun c _ => by ring
  · intro h c hc
    by_cases hi : p.inf = true
    · rw [rotR_zero (tt_inf (.inl hi))]; exact hq.z h c hc
    · change tt p q * cs (tt p q) * p.v c + cs (tt p q) * q.v c = 0
      rw [hq.z h c hc, hp.z (Bool.eq_false_iff.mpr hi) c hc, mul_zero, mul_zero, add_zero]

/-- The same of all four. -/
structure OfAll (A : Fin 4 → Fin 16 → EReal) (s : St) : Prop where
  h0 : Of A s.c0
  h1 : Of A s.c1
  h2 : Of A s.c2
  h3 : Of A s.c3

theorem OfAll.init (A : Fin 4 → Fin 16 → EReal) : OfAll A (init A) := by
  have z : ∀ (k c : Fin 4) (v : Fin 4 → ℝ), (∀ c, c ≠ k → v c = 0) → isInf (A k) = false → isInf (A c) = true → v c = 0 := by
    intro k c v hv hk hc
    refine hv c ?_
    rintro rfl
    rw [hk] at hc
    exact Bool.noConfusion hc
  refine ⟨⟨?_, fun h c hc => z 0 c _ ?_ h hc⟩, ⟨?_, fun h c hc => z 1 c _ ?_ h hc⟩, ⟨?_, fun h c hc => z 2 c _ ?_ h hc⟩,
    ⟨?_, fun h c hc => z 3 c _ ?_ h hc⟩⟩ <;> first
    | (intro r; simp [Rl.init, Fin.sum_univ_four]; done)
    | (intro c hc; fin_cases c <;> first | rfl | exact absurd rfl hc)

theorem OfAll.sweep {A : Fin 4 → Fin 16 → EReal} {s : St} (h : OfAll A s) : OfAll A (sweep s) := by
  have h01 : OfAll A (rot01 s) := ⟨h.h0.rotL h.h1, h.h0.rotR h.h1, h.h2, h.h3⟩
  have h02 : OfAll A (rot02 (rot01 s)) := ⟨h01.h0.rotL h01.h2, h01.h1, h01.h0.rotR h01.h2, h01.h3⟩
  have h03 : OfAll A (rot03 (rot02 (rot01 s))) := ⟨h02.h0.rotL h02.h3, h02.h1, h02.h2, h02.h0.rotR h02.h3⟩
  have h12 : OfAll A (rot12 (rot03 (rot02 (rot01 s)))) := ⟨h03.h0, h03.h1.rotL h03.h2, h03.h1.rotR h03.h2, h03.h3⟩
  have h13 : OfAll A (rot13 (rot12 (rot03 (rot02 (rot01 s))))) := ⟨h12.h0, h12.h1.rotL h12.h3, h12.h2, h12.h1.rotR h12.h3⟩
  exact ⟨h13.h0, h13.h1, h13.h2.rotL h13.h3, h13.h2.rotR h13.h3⟩

/-- The columns after `n` sweeps. -/
def swept (A : Fin 4 → Fin 16 → EReal) (n : ℕ) : St := sweep^[n] (init A)

theorem OfAll.swept (A : Fin 4 → Fin 16 → EReal) (n : ℕ) : OfAll A (swept A n) := by
  induction n with
  | zero => exact OfAll.init A
  | succ n ih =>
      unfold Rl.swept at ih ⊢
      rw [Function.iterate_succ_apply']
      exact ih.sweep

/-! ## After the sweeps -/

theorem Col.N_nonneg (p : Col) : 0 ≤ p.N := by
  unfold Col.N
  split_ifs
  · exact le_top
  · exact EReal.coe_nonneg.mpr p.n_nonneg

/-- The smallest norm. -/
def lam (s : St) : EReal := min (min (min s.c0.N s.c1.N) s.c2.N) s.c3.N

theorem lam_nonneg (s : St) : 0 ≤ lam s :=
  le_min (le_min (le_min s.c0.N_nonneg s.c1.N_nonneg) s.c2.N_nonneg) s.c3.N_nonneg

/-- The column whose norm is smallest. -/
def pick (s : St) : Col :=
  if s.c3.N < min (min s.c0.N s.c1.N) s.c2.N then s.c3
  else if s.c2.N < min s.c0.N s.c1.N then s.c2
  else if s.c1.N < s.c0.N then s.c1 else s.c0

theorem OfAll.pick {A : Fin 4 → Fin 16 → EReal} {s : St} (h : OfAll A s) : Of A (pick s) := by
  unfold Rl.pick
  split_ifs
  exacts [h.h3, h.h2, h.h1, h.h0]

/-- Its norm is the smallest, -/
theorem pick_N (s : St) : (pick s).N = lam s := by
  unfold pick lam
  split_ifs with h1 h2 h3
  · rw [min_eq_right h1.le]
  · rw [min_eq_left (not_lt.mp h1), min_eq_right h2.le]
  · rw [min_eq_left (not_lt.mp h1), min_eq_left (not_lt.mp h2), min_eq_right h3.le]
  · rw [min_eq_left (not_lt.mp h1), min_eq_left (not_lt.mp h2), min_eq_left (not_lt.mp h3)]

/-- so it is unmarked if any column's norm is greater. -/
theorem pick_inf (s : St) {x : EReal} (h : lam s < x) : (pick s).inf = false := by
  rw [← pick_N] at h
  unfold Col.N at h
  by_contra hc
  rw [if_pos (by simpa using hc)] at h
  exact not_top_lt h

/-- The bound over which a coefficient is cut off. -/
def big : ℝ := 10737418 * (2 : ℝ) ^ (-30 : ℤ)

def coef (x : Fin 16 → ℝ) (l : EReal) (k : Col) : ℝ :=
  if l < k.N then (if k.inf then 0 else -dot k.a x / k.n) else 0
def cut (t : ℝ) : ℝ := if |t| < big then t else 0
def corr (x : Fin 16 → ℝ) (l : EReal) (k : Col) (y : Fin 4 → ℝ) (i : Fin 4) : ℝ := y i + cut (coef x l k) * k.v i

/-- The corrected solution. -/
def sol (s : St) : Fin 4 → ℝ :=
  corr (pick s).a (lam s) s.c3 (corr (pick s).a (lam s) s.c2 (corr (pick s).a (lam s) s.c1 (corr (pick s).a (lam s) s.c0 (pick s).v)))

/-- The product of two columns, from the Gram matrix and the rotations. -/
theorem dot_gram {A : Fin 4 → Fin 16 → EReal} {p q : Col} (hp : Of A p) (hq : Of A q) :
    (∑ c, (∑ d, dot (reals (A c)) (reals (A d)) * q.v d) * p.v c) = dot p.a q.a := by
  unfold dot
  calc (∑ c, (∑ d, (∑ r, reals (A c) r * reals (A d) r) * q.v d) * p.v c)
      = ∑ c, ∑ d, ∑ r, (reals (A c) r * p.v c) * (reals (A d) r * q.v d) := by
        refine Finset.sum_congr rfl fun c _ => ?_
        rw [Finset.sum_mul]
        refine Finset.sum_congr rfl fun d _ => ?_
        rw [Finset.sum_mul, Finset.sum_mul]
        exact Finset.sum_congr rfl fun r _ => by ring
    _ = ∑ c, ∑ r, ∑ d, (reals (A c) r * p.v c) * (reals (A d) r * q.v d) := Finset.sum_congr rfl fun c _ => Finset.sum_comm
    _ = ∑ r, ∑ c, ∑ d, (reals (A c) r * p.v c) * (reals (A d) r * q.v d) := Finset.sum_comm
    _ = ∑ r, p.a r * q.a r := by
        refine Finset.sum_congr rfl fun r _ => ?_
        rw [hp.eq r, hq.eq r, Finset.sum_mul_sum]

/-! ## Sums of products of extended reals -/

theorem coe_sum (n : ℕ) (f : Fin n → ℝ) : (∑ k, (f k : EReal)) = ((∑ k, f k : ℝ) : EReal) := by
  induction n with
  | zero => rfl
  | succ n ih => rw [Fin.sum_univ_succ, Fin.sum_univ_succ, ih, EReal.coe_add]

/-- An extended column shows this one: its reals, or an infinite entry where it is marked. -/
structure Shows (x : Fin 16 → EReal) (q : Col) : Prop where
  fin : q.inf = false → ∀ r, x r = (q.a r : EReal)
  inf : q.inf = true → ∃ r, x r = ⊤ ∨ x r = ⊥

theorem reals_shows (x : Fin 16 → EReal) (v : Fin 4 → ℝ) : Shows x ⟨reals x, v, isInf x⟩ := by
  constructor
  · intro h r
    change isInf x = false at h
    change x r = ((reals x r : ℝ) : EReal)
    unfold reals
    rw [h]
    have h' : ¬ ∃ r, x r = ⊤ ∨ x r = ⊥ := by simpa [isInf] using h
    exact (EReal.coe_toReal (fun e => h' ⟨r, .inl e⟩) (fun e => h' ⟨r, .inr e⟩)).symm
  · intro h
    simpa [isInf] using h

theorem sq_nonneg' (x : EReal) : 0 ≤ x * x := by
  induction x with
  | bot => simp
  | top => simp
  | coe a => rw [← EReal.coe_mul]; exact EReal.coe_nonneg.mpr (mul_self_nonneg a)

section
variable {x y : Fin 16 → EReal} {p q : Col}

theorem Shows.gram (hx : Shows x p) (hy : Shows y q) (hp : p.inf = false) (hq : q.inf = false) :
    (∑ r, x r * y r) = ((dot p.a q.a : ℝ) : EReal) := by
  refine Eq.trans (Finset.sum_congr rfl fun r _ => ?_) (coe_sum 16 fun r => p.a r * q.a r)
  rw [hx.fin hp r, hy.fin hq r, EReal.coe_mul]

/-- The sum of the squares is the norm. -/
theorem Shows.N (hx : Shows x p) : (∑ r, x r * x r) = p.N := by
  unfold Col.N
  by_cases h : p.inf = true
  · rw [if_pos h]
    obtain ⟨r, hr⟩ := hx.inf h
    refine top_le_iff.mp (le_trans (b := x r * x r) ?_ (Finset.single_le_sum (f := fun r => x r * x r) (fun r _ => sq_nonneg' (x r)) (Finset.mem_univ r)))
    rcases hr with hr | hr <;> rw [hr] <;> simp
  · rw [if_neg h]
    exact hx.gram hx (Bool.eq_false_iff.mpr h) (Bool.eq_false_iff.mpr h)

/-- A column of norm zero has only zeros. -/
theorem zero_of_n {p : Col} (h : p.n = 0) (r : Fin 16) : p.a r = 0 := by
  have := (Finset.sum_eq_zero_iff_of_nonneg (s := Finset.univ) (f := fun r => p.a r * p.a r) fun r _ => mul_self_nonneg _).mp h r (Finset.mem_univ r)
  exact mul_self_eq_zero.mp this

theorem tol_pos : 0 < tol := by unfold tol; positivity

/-- Beside a marked column another counts as orthogonal. -/
theorem skip_of_inf (hy : Shows y q) (hp : p.inf = true) (g : EReal) (hg : (∀ r, y r = 0) → g = 0) :
    g * g ≤ (tol : EReal) * (p.N * q.N) := by
  have e : p.N = ⊤ := by unfold Col.N; rw [if_pos hp]
  rw [e]
  by_cases hq : q.N = 0
  · have hi : q.inf = false := by
      by_contra h
      unfold Col.N at hq
      rw [if_pos (by simpa using h)] at hq
      exact absurd hq (by simp)
    have hn : q.n = 0 := by
      unfold Col.N at hq
      rw [if_neg (by simp [hi])] at hq
      exact_mod_cast hq
    rw [hg fun r => by rw [hy.fin hi r, zero_of_n hn r]; rfl, hq]
    simp
  · have h : 0 < q.N := lt_of_le_of_ne q.N_nonneg (Ne.symm hq)
    rw [EReal.top_mul_of_pos h, EReal.mul_top_of_pos (EReal.coe_pos.mpr tol_pos)]
    exact le_top

/-- The tangent of a rotation, as both programs choose it. -/
theorem Shows.t (hx : Shows x p) (hy : Shows y q) (e : EReal)
    (he : p.inf = false → q.inf = false → dot p.a q.a ≠ 0 → e = ((tan (tau (dot p.a q.a) p.n q.n) : ℝ) : EReal)) :
    (if (∑ r, x r * y r) * (∑ r, x r * y r) ≤ (tol : EReal) * (p.N * q.N) then ((0 : ℝ) : EReal) else e) = ((tt p q : ℝ) : EReal) := by
  by_cases hp : p.inf = true
  · rw [tt_inf (.inl hp), if_pos]
    exact skip_of_inf hy hp _ fun h => Finset.sum_eq_zero fun r _ => by rw [h r, mul_zero]
  by_cases hq : q.inf = true
  · rw [tt_inf (.inr hq), if_pos]
    rw [EReal.mul_comm p.N]
    exact skip_of_inf hx hq _ fun h => Finset.sum_eq_zero fun r _ => by rw [h r, zero_mul]
  have hp' := Bool.eq_false_iff.mpr hp
  have hq' := Bool.eq_false_iff.mpr hq
  have eN : p.N = (p.n : EReal) := by unfold Col.N; rw [if_neg hp]
  have eN' : q.N = (q.n : EReal) := by unfold Col.N; rw [if_neg hq]
  rw [hx.gram hy hp' hq', eN, eN', ← EReal.coe_mul, ← EReal.coe_mul, ← EReal.coe_mul]
  have et : tt p q = tn (dot p.a q.a) p.n q.n := by
    unfold tt
    rw [if_neg (by simp [hp', hq'])]
  rw [et]
  unfold tn
  by_cases h : dot p.a q.a * dot p.a q.a ≤ tol * (p.n * q.n)
  · rw [if_pos (EReal.coe_le_coe_iff.mpr h), if_pos h]
  · rw [if_neg (fun h' => h (EReal.coe_le_coe_iff.mp h')), if_neg h]
    refine he hp' hq' ?_
    intro e0
    rw [e0] at h
    exact h (by simpa using mul_nonneg tol_nonneg (mul_nonneg p.n_nonneg q.n_nonneg))

end

end Cert.Proof.Rl

end
-- ==== Proof.E.lean ====
/- The operations of both programs at an index where the operands are real numbers: the result is
   the real operation's. A constant's bits as the number they denote. -/
module

public import Idealize.ShloMosaic.Lib.ValueIdx
public import Idealize.ShloMosaic.Lib.IdealHost
public import proofs.«01_k».proof.Proof.Rl

@[expose] public section

noncomputable section

namespace Cert.Proof.E

open Idealize.ShloMosaic Idealize.ShloMosaic.ValueIdx

variable {S : Shape} {x y : FVec Ideal S .f32} {i : S.Idx} {a b : ℝ}

theorem mul (hx : x i = (a : EReal)) (hy : y i = (b : EReal)) : mulf x y i = ((a * b : ℝ) : EReal) := by
  rw [mulf_apply, hx, hy]; rfl
theorem add (hx : x i = (a : EReal)) (hy : y i = (b : EReal)) : addf x y i = ((a + b : ℝ) : EReal) := by
  rw [addf_apply, hx, hy]; rfl
theorem sub (hx : x i = (a : EReal)) (hy : y i = (b : EReal)) : subf x y i = ((a - b : ℝ) : EReal) := by
  rw [subf_apply, hx, hy]; rfl
theorem min (hx : x i = (a : EReal)) (hy : y i = (b : EReal)) : minimumf x y i = ((Min.min a b : ℝ) : EReal) := by
  rw [minimumf_apply, hx, hy]; exact (EReal.coe_strictMono.monotone.map_min).symm

theorem div_real (h : b ≠ 0) : Ideal.div (a : EReal) (b : EReal) = ((a / b : ℝ) : EReal) := by
  rw [Ideal.div_coe h, ← EReal.coe_mul, mul_one_div]
theorem div (hx : x i = (a : EReal)) (hy : y i = (b : EReal)) (h : b ≠ 0) : divf x y i = ((a / b : ℝ) : EReal) := by
  rw [divf_apply, hx, hy, div_real h]
theorem hdiv (hx : x i = (a : EReal)) (hy : y i = (b : EReal)) (h : b ≠ 0) : Host.divf x y i = ((a / b : ℝ) : EReal) := by
  rw [hostDivf_apply, hx, hy, div_real h]

theorem abs_real (a : ℝ) : Max.max (a : EReal) (-(a : EReal)) = ((|a| : ℝ) : EReal) := by
  rw [← EReal.coe_neg]; exact (EReal.coe_strictMono.monotone.map_max).symm
theorem abs (hx : x i = (a : EReal)) : absf x i = ((|a| : ℝ) : EReal) := by
  change Max.max (x i) (-(x i)) = _
  rw [hx, abs_real]
theorem habs (hx : x i = (a : EReal)) : Host.absf x i = ((|a| : ℝ) : EReal) := by
  change Max.max (x i) (-(x i)) = _
  rw [hx, abs_real]
theorem hneg (hx : x i = (a : EReal)) : Host.negf x i = ((-a : ℝ) : EReal) := by
  change -(x i) = _
  rw [hx]; rfl

theorem sqrt_real (h : 0 ≤ a) : Ideal.sqrt (a : EReal) = ((√a : ℝ) : EReal) := by
  rw [Ideal.sqrt_coe, if_neg h.not_gt]
theorem sqrt (hx : x i = (a : EReal)) (h : 0 ≤ a) : Idealize.ShloMosaic.sqrt x i = ((√a : ℝ) : EReal) := by
  change Ideal.sqrt (x i) = _
  rw [hx, sqrt_real h]
theorem hsqrt (hx : x i = (a : EReal)) (h : 0 ≤ a) : Host.sqrt x i = ((√a : ℝ) : EReal) := by
  change Ideal.sqrt (x i) = _
  rw [hx, sqrt_real h]
theorem rsqrt_real (h : 0 < a) : Ideal.rsqrt (a : EReal) = (((√a)⁻¹ : ℝ) : EReal) := by
  rw [Ideal.rsqrt_coe, if_neg h.le.not_gt, if_neg h.ne']
theorem rsqrt (hx : x i = (a : EReal)) (h : 0 < a) : Idealize.ShloMosaic.rsqrt x i = (((√a)⁻¹ : ℝ) : EReal) := by
  change Ideal.rsqrt (x i) = _
  rw [hx, rsqrt_real h]
theorem hrsqrt (hx : x i = (a : EReal)) (h : 0 < a) : Host.rsqrt x i = (((√a)⁻¹ : ℝ) : EReal) := by
  change Ideal.rsqrt (x i) = _
  rw [hx, rsqrt_real h]

/-- A choice by a decided comparison. -/
theorem sel_bool {α : Type} (p : Prop) [Decidable p] (u v : α) :
    Scalar.select (BitVec.ofBool (decide p)) u v = if p then u else v := by
  by_cases h : p
  · rw [if_pos h, decide_eq_true h]; rfl
  · rw [if_neg h, decide_eq_false h]; rfl

theorem cmpLe {α : Type} (u v : α) : Scalar.select (Ideal.cmp .ole (a : EReal) (b : EReal)) u v = if a ≤ b then u else v := by
  unfold Ideal.cmp; simp only [EReal.coe_le_coe_iff]; exact sel_bool _ u v
theorem cmpGe {α : Type} (u v : α) : Scalar.select (Ideal.cmp .oge (a : EReal) (b : EReal)) u v = if b ≤ a then u else v := by
  unfold Ideal.cmp; simp only [EReal.coe_le_coe_iff]; exact sel_bool _ u v
theorem cmpLt {α : Type} (u v : α) : Scalar.select (Ideal.cmp .olt (a : EReal) (b : EReal)) u v = if a < b then u else v := by
  unfold Ideal.cmp; simp only [EReal.coe_lt_coe_iff]; exact sel_bool _ u v
theorem cmpGt {α : Type} (u v : α) : Scalar.select (Ideal.cmp .ogt (a : EReal) (b : EReal)) u v = if b < a then u else v := by
  unfold Ideal.cmp; simp only [EReal.coe_lt_coe_iff]; exact sel_bool _ u v
theorem cmpEq {α : Type} (u v : α) : Scalar.select (Ideal.cmp .oeq (a : EReal) (b : EReal)) u v = if a = b then u else v := by
  unfold Ideal.cmp; simp only [EReal.coe_eq_coe_iff]; exact sel_bool _ u v

/-- The same of extended reals. -/
theorem cmpLe' {α : Type} (a b : EReal) (u v : α) : Scalar.select (Ideal.cmp .ole a b) u v = if a ≤ b then u else v := by
  unfold Ideal.cmp; exact sel_bool _ u v
theorem cmpLt' {α : Type} (a b : EReal) (u v : α) : Scalar.select (Ideal.cmp .olt a b) u v = if a < b then u else v := by
  unfold Ideal.cmp; exact sel_bool _ u v
theorem cmpGt' {α : Type} (a b : EReal) (u v : α) : Scalar.select (Ideal.cmp .ogt a b) u v = if b < a then u else v := by
  unfold Ideal.cmp; exact sel_bool _ u v
theorem selLe' {α : Type} (u v : S.Idx → α) : select (cmpf .ole x y) u v i = if x i ≤ y i then u i else v i := cmpLe' _ _ _ _
theorem selLt' {α : Type} (u v : S.Idx → α) : select (cmpf .olt x y) u v i = if x i < y i then u i else v i := cmpLt' _ _ _ _
theorem selGt' {α : Type} (u v : S.Idx → α) : select (cmpf .ogt x y) u v i = if y i < x i then u i else v i := cmpGt' _ _ _ _

/-- A quotient by an infinite divisor is nothing. -/
theorem div_top (x : EReal) : Ideal.div x ⊤ = 0 := by
  unfold Ideal.div
  simp

/-- A rotation by nothing, at an index. -/
theorem turnL {c t : FVec Ideal S .f32} (u w : FVec Ideal S .f32) (hc : c i = ((1 : ℝ) : EReal)) (ht : t i = ((0 : ℝ) : EReal)) :
    subf (mulf c u) (mulf (mulf t c) w) i = u i := by
  change c i * u i - t i * c i * w i = u i
  rw [hc, ht]; simp
theorem turnR {c t : FVec Ideal S .f32} (u w : FVec Ideal S .f32) (hc : c i = ((1 : ℝ) : EReal)) (ht : t i = ((0 : ℝ) : EReal)) :
    addf (mulf (mulf t c) u) (mulf c w) i = w i := by
  change t i * c i * u i + c i * w i = w i
  rw [hc, ht]; simp

theorem selLe {α : Type} (hx : x i = (a : EReal)) (hy : y i = (b : EReal)) (u v : S.Idx → α) :
    select (cmpf .ole x y) u v i = if a ≤ b then u i else v i := by
  change Scalar.select (Ideal.cmp .ole (x i) (y i)) (u i) (v i) = _
  rw [hx, hy, cmpLe]
theorem selGe {α : Type} (hx : x i = (a : EReal)) (hy : y i = (b : EReal)) (u v : S.Idx → α) :
    select (cmpf .oge x y) u v i = if b ≤ a then u i else v i := by
  change Scalar.select (Ideal.cmp .oge (x i) (y i)) (u i) (v i) = _
  rw [hx, hy, cmpGe]
theorem selLt {α : Type} (hx : x i = (a : EReal)) (hy : y i = (b : EReal)) (u v : S.Idx → α) :
    select (cmpf .olt x y) u v i = if a < b then u i else v i := by
  change Scalar.select (Ideal.cmp .olt (x i) (y i)) (u i) (v i) = _
  rw [hx, hy, cmpLt]
theorem selGt {α : Type} (hx : x i = (a : EReal)) (hy : y i = (b : EReal)) (u v : S.Idx → α) :
    select (cmpf .ogt x y) u v i = if b < a then u i else v i := by
  change Scalar.select (Ideal.cmp .ogt (x i) (y i)) (u i) (v i) = _
  rw [hx, hy, cmpGt]
theorem selEq {α : Type} (hx : x i = (a : EReal)) (hy : y i = (b : EReal)) (u v : S.Idx → α) :
    select (cmpf .oeq x y) u v i = if a = b then u i else v i := by
  change Scalar.select (Ideal.cmp .oeq (x i) (y i)) (u i) (v i) = _
  rw [hx, hy, cmpEq]

/-! ## The constants -/

theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_384 : Ideal.ofBits .f32 0x43C00000#32 = ((384 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_16384 : Ideal.ofBits .f32 0x46800000#32 = ((16384 : ℝ) : EReal) := by
  simp [Ideal.ofBits, Ideal.ieee, -EReal.coe_mul]; norm_num
theorem bits_tol : Ideal.ofBits .f32 0x283424DC#32 = ((Rl.tol : ℝ) : EReal) := by
  simp [Ideal.ofBits, Ideal.ieee, Rl.tol, -EReal.coe_mul]
theorem bits_big : Ideal.ofBits .f32 0x3C23D70A#32 = ((Rl.big : ℝ) : EReal) := by
  simp [Ideal.ofBits, Ideal.ieee, Rl.big, -EReal.coe_mul]

/-- The tangent, from its argument. -/
theorem tan_real (t : ℝ) : ((Rl.tan t : ℝ) : EReal)
    = ((((if 0 ≤ t then 1 else -1) / (|t| + √(1 + t * t)) : ℝ)) : EReal) := rfl

theorem root_pos (t : ℝ) : |t| + √(1 + t * t) ≠ 0 := by
  have h : (0 : ℝ) < 1 + t * t := by nlinarith [mul_self_nonneg t]
  have := Real.sqrt_pos.mpr h
  have := abs_nonneg t
  positivity

theorem one_add_sq_pos (t : ℝ) : (0 : ℝ) < 1 + t * t := by nlinarith [mul_self_nonneg t]

/-- The loss of one coordinate, from the distance. -/
def loss (d : EReal) : EReal :=
  Scalar.select (Ideal.cmp .olt d (Ideal.ofBits .f32 0x3D4CCCCD#32)) (Ideal.ofBits .f32 0x41200000#32 * d * d) (d - Ideal.ofBits .f32 0x3CCCCCCD#32)

/-- The distance of a solution to a true joint, along one coordinate. -/
def dist (u w : ℝ) (g : EReal) : EReal :=
  Max.max ((u : EReal) * Ideal.div (Ideal.ofBits .f32 0x3F800000#32) (w : EReal) - g) (-((u : EReal) * Ideal.div (Ideal.ofBits .f32 0x3F800000#32) (w : EReal) - g))

end Cert.Proof.E

end
-- ==== Proof.KSide.lean ====
/- The kernel's body at one joint and lane, over the reals: its columns after the sweeps are the real
   ones, the norms it carries are the columns' squared norms, and what it adds up is the loss of the
   real solution. A column with an infinite entry stays as it is. -/
module

public import proofs.«01_k».proof.Proof.Body
public import proofs.«01_k».proof.Proof.E

@[expose] public section

noncomputable section

namespace Cert.Proof.KSide

open Idealize.ShloMosaic Idealize.ShloMosaic.ValueIdx Cert.Proof.Body

variable {i : SV.Idx}

theorem con_at (x : BitVec 32) (i : SV.Idx) {a : ℝ} (h : Ideal.ofBits .f32 x = (a : EReal)) :
    con (F := Ideal) x i = (a : EReal) := h

theorem dot_at (x y : Fin 16 → Vx Ideal) : dot x y i = ∑ r, x r i * y r i := by
  simp only [dot, addf_apply, mulf_apply, Fin.sum_univ_succ, Fin.sum_univ_zero]
  simp only [← add_assoc, add_zero]
  rfl

theorem gram_at (x y : Fin 16 → Vx Ideal) : gramV x y i = ∑ r, x r i * y r i := by
  simp only [gramV, addf_apply, mulf_apply, con_at _ i E.bits_zero, EReal.coe_zero, Fin.sum_univ_succ, Fin.sum_univ_zero]
  simp only [← add_assoc, add_zero, zero_add]
  rfl

theorem sum4_at (x y : Fin 4 → Vx Ideal) :
    sum4 (x 0) (x 1) (x 2) (x 3) (y 0) (y 1) (y 2) (y 3) i = ∑ k, x k i * y k i := by
  simp only [sum4, addf_apply, mulf_apply, con_at _ i E.bits_zero, EReal.coe_zero, Fin.sum_univ_four, zero_add]

theorem tan_at {t : Vx Ideal} {x : ℝ} (h : t i = (x : EReal)) : tanV t i = ((Rl.tan x : ℝ) : EReal) := by
  refine E.div ?_ (E.add (E.abs h) (E.sqrt (E.add (con_at _ i E.bits_one) (E.mul h h)) (E.one_add_sq_pos x).le)) (E.root_pos x)
  rw [E.selGe h (con_at _ i E.bits_zero)]
  split_ifs
  exacts [con_at _ i E.bits_one, con_at _ i E.bits_neg_one]

theorem tau_at {g n n' : Vx Ideal} {a b b' : ℝ} (hg : g i = (a : EReal)) (hn : n i = (b : EReal)) (hn' : n' i = (b' : EReal)) (h : a ≠ 0) :
    tauV g n n' i = ((Rl.tau a b b' : ℝ) : EReal) := by
  have h2 : (2 : ℝ) * a ≠ 0 := mul_ne_zero two_ne_zero h
  have e : mulf (con (F := Ideal) 0x40000000#32) g i = ((2 * a : ℝ) : EReal) := E.mul (con_at _ i E.bits_two) hg
  refine E.div (E.sub hn' hn) ?_ h2
  rw [E.selEq e (con_at _ i E.bits_zero), if_neg h2, e]

theorem c_at {t : Vx Ideal} {x : ℝ} (h : t i = (x : EReal)) : cV t i = ((Rl.cs x : ℝ) : EReal) :=
  E.rsqrt (E.add (con_at _ i E.bits_one) (E.mul h h)) (E.one_add_sq_pos x)

/-- A column of the kernel's is this real one. -/
structure Is (i : SV.Idx) (p : Col Ideal) (q : Rl.Col) : Prop where
  a : Rl.Shows (fun r => p.a r i) q
  n : p.n i = q.N
  v : ∀ k, p.v k i = (q.v k : EReal)

section
variable {p p' : Col Ideal} {q q' : Rl.Col}

theorem N_fin {q : Rl.Col} (h : q.inf = false) : q.N = (q.n : EReal) := by
  unfold Rl.Col.N
  rw [if_neg (by simp [h])]

theorem Is.t (h : Is i p q) (h' : Is i p' q') : tV (dot p.a p'.a) p.n p'.n i = ((Rl.tt q q' : ℝ) : EReal) := by
  unfold tV
  rw [E.selLe', ← h.a.t h'.a (tanV (tauV (dot p.a p'.a) p.n p'.n) i) ?_, ← h.n, ← h'.n]
  · rw [mulf_apply, mulf_apply, mulf_apply, dot_at, con_at _ i E.bits_tol, con_at _ i E.bits_zero]
  · intro e e' hd
    exact tan_at (tau_at ((dot_at _ _).trans (h.a.gram h'.a e e')) (h.n.trans (N_fin e)) (h'.n.trans (N_fin e')) hd)

theorem Is.rotL (h : Is i p q) (h' : Is i p' q') : Is i (rotL p p') (Rl.rotL q q') := by
  refine ⟨⟨fun e r => ?_, fun e => ?_⟩, ?_, fun k =>
    E.sub (E.mul (c_at (h.t h')) (h.v k)) (E.mul (E.mul (h.t h') (c_at (h.t h'))) (h'.v k))⟩
  · by_cases e' : q'.inf = true
    · have h0 := Rl.tt_inf (p := q) (q := q') (.inr e')
      have ht := h.t h'
      have hc := c_at ht
      rw [h0, Rl.cs_zero] at hc
      rw [h0] at ht
      rw [Rl.rotL_zero h0]
      exact (E.turnL _ _ hc ht).trans (h.a.fin e r)
    · exact E.sub (E.mul (c_at (h.t h')) (h.a.fin e r)) (E.mul (E.mul (h.t h') (c_at (h.t h'))) (h'.a.fin (Bool.eq_false_iff.mpr e') r))
  · have h0 := Rl.tt_inf (p := q) (q := q') (.inl e)
    have ht := h.t h'
    have hc := c_at ht
    rw [h0, Rl.cs_zero] at hc
    rw [h0] at ht
    obtain ⟨r, hr⟩ := h.a.inf e
    refine ⟨r, ?_⟩
    have := E.turnL (p.a r) (p'.a r) hc ht
    change subf _ _ i = ⊤ ∨ subf _ _ i = ⊥
    rw [this]
    exact hr
  · by_cases e : q.inf = true ∨ q'.inf = true
    · have h0 := Rl.tt_inf e
      have ht := h.t h'
      rw [h0] at ht
      rw [Rl.rotL_zero h0, ← h.n]
      change p.n i - tV (dot p.a p'.a) p.n p'.n i * dot p.a p'.a i = p.n i
      rw [ht]; simp
    · have e1 := Bool.eq_false_iff.mpr fun h => e (.inl h)
      have e2 := Bool.eq_false_iff.mpr fun h => e (.inr h)
      rw [N_fin (q := Rl.rotL q q') e1, Rl.rotL_n]
      exact E.sub (h.n.trans (N_fin e1)) (E.mul (h.t h') ((dot_at _ _).trans (h.a.gram h'.a e1 e2)))

theorem Is.rotR (h : Is i p q) (h' : Is i p' q') : Is i (rotR p p') (Rl.rotR q q') := by
  refine ⟨⟨fun e r => ?_, fun e => ?_⟩, ?_, fun k =>
    E.add (E.mul (E.mul (h.t h') (c_at (h.t h'))) (h.v k)) (E.mul (c_at (h.t h')) (h'.v k))⟩
  · by_cases e' : q.inf = true
    · have h0 := Rl.tt_inf (p := q) (q := q') (.inl e')
      have ht := h.t h'
      have hc := c_at ht
      rw [h0, Rl.cs_zero] at hc
      rw [h0] at ht
      rw [Rl.rotR_zero h0]
      exact (E.turnR _ _ hc ht).trans (h'.a.fin e r)
    · exact E.add (E.mul (E.mul (h.t h') (c_at (h.t h'))) (h.a.fin (Bool.eq_false_iff.mpr e') r)) (E.mul (c_at (h.t h')) (h'.a.fin e r))
  · have h0 := Rl.tt_inf (p := q) (q := q') (.inr e)
    have ht := h.t h'
    have hc := c_at ht
    rw [h0, Rl.cs_zero] at hc
    rw [h0] at ht
    obtain ⟨r, hr⟩ := h'.a.inf e
    refine ⟨r, ?_⟩
    have := E.turnR (p.a r) (p'.a r) hc ht
    change addf _ _ i = ⊤ ∨ addf _ _ i = ⊥
    rw [this]
    exact hr
  · by_cases e : q.inf = true ∨ q'.inf = true
    · have h0 := Rl.tt_inf e
      have ht := h.t h'
      rw [h0] at ht
      rw [Rl.rotR_zero h0, ← h'.n]
      change p'.n i + tV (dot p.a p'.a) p.n p'.n i * dot p.a p'.a i = p'.n i
      rw [ht]; simp
    · have e1 := Bool.eq_false_iff.mpr fun h => e (.inl h)
      have e2 := Bool.eq_false_iff.mpr fun h => e (.inr h)
      rw [N_fin (q := Rl.rotR q q') e2, Rl.rotR_n]
      exact E.add (h'.n.trans (N_fin e2)) (E.mul (h.t h') ((dot_at _ _).trans (h.a.gram h'.a e1 e2)))

end

/-- The same of all four. -/
structure Are (i : SV.Idx) (s : St Ideal) (z : Rl.St) : Prop where
  h0 : Is i s.c0 z.c0
  h1 : Is i s.c1 z.c1
  h2 : Is i s.c2 z.c2
  h3 : Is i s.c3 z.c3

theorem Are.sweep {s : St Ideal} {z : Rl.St} (h : Are i s z) : Are i (sweep s) (Rl.sweep z) := by
  have h01 : Are i (rot01 s) (Rl.rot01 z) := ⟨h.h0.rotL h.h1, h.h0.rotR h.h1, h.h2, h.h3⟩
  have h02 : Are i (rot02 (rot01 s)) (Rl.rot02 (Rl.rot01 z)) := ⟨h01.h0.rotL h01.h2, h01.h1, h01.h0.rotR h01.h2, h01.h3⟩
  have h03 : Are i (rot03 (rot02 (rot01 s))) (Rl.rot03 (Rl.rot02 (Rl.rot01 z))) := ⟨h02.h0.rotL h02.h3, h02.h1, h02.h2, h02.h0.rotR h02.h3⟩
  have h12 : Are i (rot12 (rot03 (rot02 (rot01 s)))) (Rl.rot12 (Rl.rot03 (Rl.rot02 (Rl.rot01 z)))) :=
    ⟨h03.h0, h03.h1.rotL h03.h2, h03.h1.rotR h03.h2, h03.h3⟩
  have h13 : Are i (rot13 (rot12 (rot03 (rot02 (rot01 s))))) (Rl.rot13 (Rl.rot12 (Rl.rot03 (Rl.rot02 (Rl.rot01 z))))) :=
    ⟨h12.h0, h12.h1.rotL h12.h3, h12.h2, h12.h1.rotR h12.h3⟩
  exact ⟨h13.h0, h13.h1, h13.h2.rotL h13.h3, h13.h2.rotR h13.h3⟩

/-- The entries of `A` at one joint and lane. -/
abbrev at_ (A : Fin 4 → Fin 16 → Vx Ideal) (i : SV.Idx) : Fin 4 → Fin 16 → EReal := fun c r => A c r i

theorem Are.init (A : Fin 4 → Fin 16 → Vx Ideal) : Are i (init A) (Rl.init (at_ A i)) := by
  have h1 : con (F := Ideal) 0x3F800000#32 i = ((1 : ℝ) : EReal) := con_at _ i E.bits_one
  have h0 : con (F := Ideal) 0x00000000#32 i = ((0 : ℝ) : EReal) := con_at _ i E.bits_zero
  have s : ∀ c v, Rl.Shows (fun r => A c r i) ⟨Rl.reals (at_ A i c), v, Rl.isInf (at_ A i c)⟩ := fun c v => Rl.reals_shows _ v
  refine ⟨⟨s 0 _, (dot_at _ _).trans (s 0 _).N, ?_⟩, ⟨s 1 _, (dot_at _ _).trans (s 1 _).N, ?_⟩, ⟨s 2 _, (dot_at _ _).trans (s 2 _).N, ?_⟩,
    ⟨s 3 _, (dot_at _ _).trans (s 3 _).N, ?_⟩⟩ <;>
    intro k <;> fin_cases k <;> first | exact h1 | exact h0

theorem Are.swept (A : Fin 4 → Fin 16 → Vx Ideal) (n : ℕ) : Are i (swept (Body.init A) n) (Rl.swept (at_ A i) n) := by
  induction n with
  | zero => exact Are.init A
  | succ n ih =>
      unfold Body.swept Rl.swept at ih ⊢
      rw [Function.iterate_succ_apply', Function.iterate_succ_apply']
      exact ih.sweep

/-! ## After the sweeps -/

section
variable {s : St Ideal} {z : Rl.St}

theorem Are.lam (h : Are i s z) : lamV s i = Rl.lam z := by
  change min (min (min (s.c0.n i) (s.c1.n i)) (s.c2.n i)) (s.c3.n i) = _
  rw [h.h0.n, h.h1.n, h.h2.n, h.h3.n]; rfl

theorem Are.pick (h : Are i s z) (k : Fin 4) : pickV s k i = (((Rl.pick z).v k : ℝ) : EReal) := by
  unfold pickV Rl.pick
  rw [E.selLt', E.selLt', E.selLt']
  change (if s.c3.n i < min (min (s.c0.n i) (s.c1.n i)) (s.c2.n i) then _ else if s.c2.n i < min (s.c0.n i) (s.c1.n i) then _
    else if s.c1.n i < s.c0.n i then _ else _) = _
  rw [h.h0.n, h.h1.n, h.h2.n, h.h3.n]
  split_ifs
  exacts [h.h3.v k, h.h2.v k, h.h1.v k, h.h0.v k]

end

/-- The Gram matrix times a vector, at an index. -/
theorem h_sum (A : Fin 4 → Fin 16 → Vx Ideal) (x : Fin 4 → Vx Ideal) (c : Fin 4) :
    hV A x c i = ∑ d, (∑ r, A c r i * A d r i) * x d i := by
  have comm : ∀ c d, (∑ r, A c r i * A d r i) = ∑ r, A d r i * A c r i :=
    fun c d => Finset.sum_congr rfl fun r _ => EReal.mul_comm _ _
  fin_cases c
  · refine (sum4_at ![gramV (A 0) (A 0), gramV (A 0) (A 1), gramV (A 0) (A 2), gramV (A 0) (A 3)] x).trans (Finset.sum_congr rfl fun d _ => ?_)
    fin_cases d <;> exact congrArg (· * _) (gram_at _ _)
  · refine (sum4_at ![gramV (A 0) (A 1), gramV (A 1) (A 1), gramV (A 1) (A 2), gramV (A 1) (A 3)] x).trans (Finset.sum_congr rfl fun d _ => ?_)
    fin_cases d <;> first | exact congrArg (· * _) ((gram_at _ _).trans (comm _ _)) | exact congrArg (· * _) (gram_at _ _)
  · refine (sum4_at ![gramV (A 0) (A 2), gramV (A 1) (A 2), gramV (A 2) (A 2), gramV (A 2) (A 3)] x).trans (Finset.sum_congr rfl fun d _ => ?_)
    fin_cases d <;> first | exact congrArg (· * _) ((gram_at _ _).trans (comm _ _)) | exact congrArg (· * _) (gram_at _ _)
  · refine (sum4_at ![gramV (A 0) (A 3), gramV (A 1) (A 3), gramV (A 2) (A 3), gramV (A 3) (A 3)] x).trans (Finset.sum_congr rfl fun d _ => ?_)
    fin_cases d <;> first | exact congrArg (· * _) ((gram_at _ _).trans (comm _ _)) | exact congrArg (· * _) (gram_at _ _)

/-- An unmarked row of it is real, if the vector has no part in the marked columns. -/
theorem h_at (A : Fin 4 → Fin 16 → Vx Ideal) {x : Fin 4 → Vx Ideal} {y : Fin 4 → ℝ} (hx : ∀ k, x k i = (y k : EReal))
    (hz : ∀ d, Rl.isInf (at_ A i d) = true → y d = 0) (c : Fin 4) (hc : Rl.isInf (at_ A i c) = false) :
    hV A x c i = ((∑ d, Rl.dot (Rl.reals (at_ A i c)) (Rl.reals (at_ A i d)) * y d : ℝ) : EReal) := by
  rw [h_sum]
  refine Eq.trans (Finset.sum_congr rfl fun d _ => ?_) (Rl.coe_sum 4 fun d => Rl.dot (Rl.reals (at_ A i c)) (Rl.reals (at_ A i d)) * y d)
  rw [hx d]
  by_cases hd : Rl.isInf (at_ A i d) = true
  · rw [hz d hd]; simp
  · rw [EReal.coe_mul]
    refine congrArg (· * _) ?_
    exact (Rl.reals_shows (at_ A i c) (fun _ => 0)).gram (Rl.reals_shows (at_ A i d) (fun _ => 0)) hc (Bool.eq_false_iff.mpr hd)

theorem coef_at {A : Fin 4 → Fin 16 → Vx Ideal} {x : Fin 4 → Vx Ideal} {l : Vx Ideal} {k : Col Ideal} {z : Rl.St} {p : Rl.Col}
    (hp : Rl.Of (at_ A i) p) (hq : Rl.Of (at_ A i) (Rl.pick z)) (hx : ∀ d, x d i = (((Rl.pick z).v d : ℝ) : EReal))
    (hl : l i = Rl.lam z) (hk : Is i k p) : coefV (hV A x) l k i = ((Rl.coef (Rl.pick z).a (Rl.lam z) p : ℝ) : EReal) := by
  unfold coefV Rl.coef
  rw [E.selGt', hk.n, hl]
  by_cases hc : Rl.lam z < p.N
  · rw [if_pos hc, if_pos hc, divf_apply, E.selGt', hk.n, hl, if_pos hc]
    by_cases hi : p.inf = true
    · rw [if_pos hi]
      unfold Rl.Col.N
      rw [if_pos hi, E.div_top]; rfl
    rw [if_neg hi]
    have hi' := Bool.eq_false_iff.mpr hi
    have hz := hq.z (Rl.pick_inf z hc)
    have hs : sum4 (hV A x 0) (hV A x 1) (hV A x 2) (hV A x 3) (k.v 0) (k.v 1) (k.v 2) (k.v 3) i = ((Rl.dot p.a (Rl.pick z).a : ℝ) : EReal) := by
      rw [← Rl.dot_gram hp hq, sum4_at (hV A x) k.v]
      refine Eq.trans (Finset.sum_congr rfl fun c _ => ?_)
        (Rl.coe_sum 4 fun c => (∑ d, Rl.dot (Rl.reals (at_ A i c)) (Rl.reals (at_ A i d)) * (Rl.pick z).v d) * p.v c)
      rw [hk.v c]
      by_cases hd : Rl.isInf (at_ A i c) = true
      · rw [hp.z hi' c hd]; simp
      · rw [h_at A hx hz c (Bool.eq_false_iff.mpr hd), EReal.coe_mul]
    have e := E.sub (con_at _ i E.bits_zero) hs
    rw [zero_sub] at e
    rw [e, N_fin hi']
    have h0 : (0 : EReal) < p.n := by
      rw [← N_fin hi']
      exact lt_of_le_of_lt (Rl.lam_nonneg z) hc
    exact E.div_real (EReal.coe_pos.mp h0).ne'
  · rw [if_neg hc, if_neg hc]
    exact con_at _ i E.bits_zero

theorem cut_at {t : Vx Ideal} {a : ℝ} (h : t i = (a : EReal)) : cutV t i = ((Rl.cut a : ℝ) : EReal) := by
  unfold cutV Rl.cut
  rw [E.selLt (E.abs h) (con_at _ i E.bits_big)]
  split_ifs
  exacts [h, con_at _ i E.bits_zero]

/-- The corrected solution is the real one. -/
theorem sol_at (A : Fin 4 → Fin 16 → Vx Ideal) (n : ℕ) (k : Fin 4) :
    solV A (swept (init A) n) k i = ((Rl.sol (Rl.swept (at_ A i) n) k : ℝ) : EReal) := by
  have hs := Are.swept (i := i) A n
  have ho := Rl.OfAll.swept (at_ A i) n
  have step : ∀ {c : Col Ideal} {p : Rl.Col} {x : Fin 4 → Vx Ideal} {y : Fin 4 → ℝ}, Is i c p → Rl.Of (at_ A i) p →
      (∀ k, x k i = (y k : EReal)) →
      ∀ k, stepV (hV A (pickV (swept (init A) n))) (lamV (swept (init A) n)) c x k i
        = ((Rl.corr (Rl.pick (Rl.swept (at_ A i) n)).a (Rl.lam (Rl.swept (at_ A i) n)) p y k : ℝ) : EReal) :=
    fun hc hp hx k => E.add (hx k) (E.mul (cut_at (coef_at hp ho.pick hs.pick hs.lam hc)) (hc.v k))
  exact step hs.h3 ho.h3 (step hs.h2 ho.h2 (step hs.h1 ho.h1 (step hs.h0 ho.h0 hs.pick))) k

/-- The loss at this joint and lane. -/
theorem total_at (x0 : Vec Ideal SP .f32) (x1 : Vec Ideal SM .f32) (x2 : Vec Ideal SW .f32) (x3 : Vec Ideal SG .f32) (n : ℕ)
    {A : Fin 4 → Fin 16 → EReal} (hA : ∀ c r, colA x0 x1 x2 c r i = A c r) :
    totalV x0 x1 x2 x3 n i = E.loss (E.dist (Rl.sol (Rl.swept A n) 0) (Rl.sol (Rl.swept A n) 3) (ldG x3 0 i))
      + E.loss (E.dist (Rl.sol (Rl.swept A n) 1) (Rl.sol (Rl.swept A n) 3) (ldG x3 1 i))
      + E.loss (E.dist (Rl.sol (Rl.swept A n) 2) (Rl.sol (Rl.swept A n) 3) (ldG x3 2 i)) := by
  obtain rfl : at_ (colA x0 x1 x2) i = A := funext fun c => funext fun r => hA c r
  have e := sol_at (i := i) (colA x0 x1 x2) n
  have d : ∀ k : Fin 3, distV x3 (solV (colA x0 x1 x2) (swept (init (colA x0 x1 x2)) n)) k i
      = E.dist (Rl.sol (Rl.swept (at_ (colA x0 x1 x2) i) n) k.castSucc) (Rl.sol (Rl.swept (at_ (colA x0 x1 x2) i) n) 3) (ldG x3 k i) := by
    intro k
    unfold E.dist
    rw [← e k.castSucc, ← e 3]
    rfl
  have l : ∀ k : Fin 3, lossV (distV x3 (solV (colA x0 x1 x2) (swept (init (colA x0 x1 x2)) n)) k) i
      = E.loss (E.dist (Rl.sol (Rl.swept (at_ (colA x0 x1 x2) i) n) k.castSucc) (Rl.sol (Rl.swept (at_ (colA x0 x1 x2) i) n) 3) (ldG x3 k i)) := by
    intro k
    rw [← d k]
    rfl
  unfold totalV
  rw [addf_apply, addf_apply, l 0, l 1, l 2]
  rfl

end Cert.Proof.KSide

end
-- ==== Proof.RefM.lean ====
/- The reference's loop and what follows it, written as the program is but by its parts: the
   product of two columns, one rotation of a pair, one sweep, the solution and the loss. The
   printed step and the printed result are these by computation. -/
module

public import proofs.«01_k».proof.Proof.Gen.ReferenceIdeal.Step

@[expose] public section

noncomputable section

namespace Cert.Proof.RefM

open Idealize.ShloMosaic Cert.ReferenceIdeal Cert.ReferenceIdeal.Gen Cert.ReferenceIdeal.Step

variable {F : FTy → Type} [FloatOps F]

abbrev Q16 (F : FTy → Type) [FloatOps F] : Type := FVec F S16384x32x16 .f32
abbrev Q4 (F : FTy → Type) [FloatOps F] : Type := FVec F S16384x32x4 .f32
abbrev Q3 (F : FTy → Type) [FloatOps F] : Type := FVec F S16384x32x3 .f32
abbrev Q1 (F : FTy → Type) [FloatOps F] : Type := FVec F S16384x32x1 .f32
abbrev Q0 (F : FTy → Type) [FloatOps F] : Type := FVec F S16384x32 .f32
abbrev B1 : Type := IVec S16384x32x1 1

/-- A constant at every batch member and joint, -/
def c0 (x : BitVec 32) : Q0 F := broadcastInDim S16384x32 ![] bcast_S_S16384x32 (constant S_ .f32 x)
/-- the same with a unit axis behind, -/
def c1 (x : BitVec 32) : Q1 F := broadcastInDim S16384x32x1 ![] bcast_S_S16384x32x1 (constant S_ .f32 x)
/-- and at every coordinate. -/
def c3 (x : BitVec 32) : Q3 F := broadcastInDim S16384x32x3 ![] bcast_S_S16384x32x3 (constant S_ .f32 x)

/-- A unit axis behind. -/
def up {α : Type} (x : S16384x32.Idx → α) : S16384x32x1.Idx → α := broadcastInDim S16384x32x1 ![0, 1] bcast_S16384x32_S16384x32x1_0_1 x
/-- A value spread over the rows, -/
def to16 {α : Type} (x : S16384x32x1.Idx → α) : S16384x32x16.Idx → α := broadcastInDim S16384x32x16 ![0, 1, 2] bcast_S16384x32x1_S16384x32x16_0_1_2 x
/-- over the four components, -/
def to4 {α : Type} (x : S16384x32x1.Idx → α) : S16384x32x4.Idx → α := broadcastInDim S16384x32x4 ![0, 1, 2] bcast_S16384x32x1_S16384x32x4_0_1_2 x
/-- over the three coordinates. -/
def to3 {α : Type} (x : S16384x32x1.Idx → α) : S16384x32x3.Idx → α := broadcastInDim S16384x32x3 ![0, 1, 2] bcast_S16384x32x1_S16384x32x3_0_1_2 x

/-- The product of two columns. -/
def rdot (x y : Q16 F) : Q0 F := Host.reduceAdd (mulf x y) (constant S_ .f32 0x00000000#32) reducesTo_S16384x32x16_S16384x32_d2 h_S_

/-- The cotangent of twice the angle. -/
def rtau (a b : Q16 F) : Q0 F := Host.divf (subf (rdot b b) (rdot a a)) (mulf (c0 0x40000000#32) (rdot a b))

/-- The tangent, from it. -/
def rtan (tau : Q0 F) : Q0 F :=
  Host.divf (select (cmpf .oge tau (c0 0x00000000#32)) (c0 0x3F800000#32) (c0 0xBF800000#32))
    (addf (Host.absf tau) (Host.sqrt (addf (c0 0x3F800000#32) (mulf tau tau))))

/-- The tangent used: zero where the columns are orthogonal enough. -/
def rT (a b : Q16 F) : Q1 F :=
  up (select (cmpf .ole (mulf (rdot a b) (rdot a b)) (mulf (c0 0x283424DC#32) (mulf (rdot a a) (rdot b b)))) (c0 0x00000000#32) (rtan (rtau a b)))

/-- The cosine and the sine. -/
def rC (t : Q1 F) : Q1 F := Host.rsqrt (addf (c1 0x3F800000#32) (mulf t t))
def rS (t : Q1 F) : Q1 F := mulf t (rC t)

/-- A pair of columns after its rotation, and the same of the accumulated rotations. -/
def L16 (t : Q1 F) (x y : Q16 F) : Q16 F := subf (mulf (to16 (rC t)) x) (mulf (to16 (rS t)) y)
def R16 (t : Q1 F) (x y : Q16 F) : Q16 F := addf (mulf (to16 (rS t)) x) (mulf (to16 (rC t)) y)
def L4 (t : Q1 F) (x y : Q4 F) : Q4 F := subf (mulf (to4 (rC t)) x) (mulf (to4 (rS t)) y)
def R4 (t : Q1 F) (x y : Q4 F) : Q4 F := addf (mulf (to4 (rS t)) x) (mulf (to4 (rC t)) y)

/-- A column and the matching column of the accumulated rotations. -/
structure Col (F : FTy → Type) [FloatOps F] where
  a : Q16 F
  v : Q4 F

def rotL (p q : Col F) : Col F := ⟨L16 (rT p.a q.a) p.a q.a, L4 (rT p.a q.a) p.v q.v⟩
def rotR (p q : Col F) : Col F := ⟨R16 (rT p.a q.a) p.a q.a, R4 (rT p.a q.a) p.v q.v⟩

structure St (F : FTy → Type) [FloatOps F] where
  c0 : Col F
  c1 : Col F
  c2 : Col F
  c3 : Col F

def rot01 (s : St F) : St F := ⟨rotL s.c0 s.c1, rotR s.c0 s.c1, s.c2, s.c3⟩
def rot02 (s : St F) : St F := ⟨rotL s.c0 s.c2, s.c1, rotR s.c0 s.c2, s.c3⟩
def rot03 (s : St F) : St F := ⟨rotL s.c0 s.c3, s.c1, s.c2, rotR s.c0 s.c3⟩
def rot12 (s : St F) : St F := ⟨s.c0, rotL s.c1 s.c2, rotR s.c1 s.c2, s.c3⟩
def rot13 (s : St F) : St F := ⟨s.c0, rotL s.c1 s.c3, s.c2, rotR s.c1 s.c3⟩
def rot23 (s : St F) : St F := ⟨s.c0, s.c1, rotL s.c2 s.c3, rotR s.c2 s.c3⟩

def sweep (s : St F) : St F := rot23 (rot13 (rot12 (rot03 (rot02 (rot01 s)))))

/-- The columns of the printed state. -/
def ofS (s : State F) : St F := ⟨⟨s.main_v67_2, s.main_v67_6⟩, ⟨s.main_v67_3, s.main_v67_7⟩, ⟨s.main_v67_4, s.main_v67_8⟩, ⟨s.main_v67_5, s.main_v67_9⟩⟩

section
variable (j : ℕ) (s : State F)

theorem pair01 : rot01 (ofS s) = ⟨⟨b54 j s, b64 j s⟩, ⟨b59 j s, b69 j s⟩, ⟨s.main_v67_4, s.main_v67_8⟩, ⟨s.main_v67_5, s.main_v67_9⟩⟩ := rfl

theorem pair02 (u v : Col F) : rot02 ⟨⟨b54 j s, b64 j s⟩, u, ⟨s.main_v67_4, s.main_v67_8⟩, v⟩
    = ⟨⟨b122 j s, b132 j s⟩, u, ⟨b127 j s, b137 j s⟩, v⟩ := rfl

theorem pair03 (u v : Col F) : rot03 ⟨⟨b122 j s, b132 j s⟩, u, v, ⟨s.main_v67_5, s.main_v67_9⟩⟩
    = ⟨⟨b190 j s, b200 j s⟩, u, v, ⟨b195 j s, b205 j s⟩⟩ := rfl

theorem pair12 (u v : Col F) : rot12 ⟨u, ⟨b59 j s, b69 j s⟩, ⟨b127 j s, b137 j s⟩, v⟩
    = ⟨u, ⟨b258 j s, b268 j s⟩, ⟨b263 j s, b273 j s⟩, v⟩ := rfl

theorem pair13 (u v : Col F) : rot13 ⟨u, ⟨b258 j s, b268 j s⟩, v, ⟨b195 j s, b205 j s⟩⟩
    = ⟨u, ⟨b326 j s, b336 j s⟩, v, ⟨b331 j s, b341 j s⟩⟩ := rfl

theorem pair23 (u v : Col F) : rot23 ⟨u, v, ⟨b263 j s, b273 j s⟩, ⟨b331 j s, b341 j s⟩⟩
    = ⟨u, v, ⟨b394 j s, b404 j s⟩, ⟨b399 j s, b409 j s⟩⟩ := rfl

/-- The printed step is one sweep. -/
theorem step_eq : ofS (step j s) = sweep (ofS s) := by
  unfold sweep
  rw [pair01 j s, pair02, pair03, pair12, pair13, pair23]
  rfl

end

/-! ## After the loop -/

def nrm (x : Q16 F) : Q1 F := up (rdot x x)

def m1 (s : St F) : Q1 F := minimumf (nrm s.c0.a) (nrm s.c1.a)
def m2 (s : St F) : Q1 F := minimumf (m1 s) (nrm s.c2.a)
/-- The smallest squared norm. -/
def lam (s : St F) : Q1 F := minimumf (m2 s) (nrm s.c3.a)

/-- The column of the rotations whose norm is smallest, -/
def pick4 (s : St F) : Q4 F :=
  select (to4 (cmpf .olt (nrm s.c3.a) (m2 s))) s.c3.v (select (to4 (cmpf .olt (nrm s.c2.a) (m1 s))) s.c2.v
    (select (to4 (cmpf .olt (nrm s.c1.a) (nrm s.c0.a))) s.c1.v s.c0.v))

/-- and the matching column. -/
def pick16 (s : St F) : Q16 F :=
  select (to16 (cmpf .olt (nrm s.c3.a) (m2 s))) s.c3.a (select (to16 (cmpf .olt (nrm s.c2.a) (m1 s))) s.c2.a
    (select (to16 (cmpf .olt (nrm s.c1.a) (nrm s.c0.a))) s.c1.a s.c0.a))

def z1 : Q1 F := broadcastInDim S16384x32x1 ![] bcast_S_S16384x32x1 (id (constant S_ .f32 0x00000000#32))

/-- The coefficient of one column in the correction, -/
def coef (x : Q16 F) (l : Q1 F) (k : Col F) : Q1 F :=
  select (cmpf .ogt (nrm k.a) l) (Host.divf (Host.negf (up (rdot k.a x))) (nrm k.a)) z1
/-- cut off where it is not small. -/
def cut (t : Q1 F) : Q1 F := select (cmpf .olt (Host.absf t) (c1 0x3C23D70A#32)) t z1
def corr (x : Q16 F) (l : Q1 F) (k : Col F) (y : Q4 F) : Q4 F := addf y (mulf (to4 (cut (coef x l k))) k.v)

/-- The corrected solution. -/
def sol (s : St F) : Q4 F :=
  corr (pick16 s) (lam s) s.c3 (corr (pick16 s) (lam s) s.c2 (corr (pick16 s) (lam s) s.c1 (corr (pick16 s) (lam s) s.c0 (pick4 s))))

/-- The distance to the true joint, -/
def dist (x : Q4 F) (g : Q3 F) : Q3 F :=
  Host.absf (subf (mulf (extractStridedSlice S16384x32x3 ![0, 0, 0] x slices_S16384x32x4_S16384x32x3_0_0_0)
    (to3 (Host.divf (c1 0x3F800000#32) (extractStridedSlice S16384x32x1 ![0, 0, 3] x slices_S16384x32x4_S16384x32x1_0_0_3)))) g)
/-- the loss, -/
def loss (d : Q3 F) : Q3 F :=
  select (cmpf .olt d (c3 0x3D4CCCCD#32)) (mulf (mulf (c3 0x41200000#32) d) d) (subf d (c3 0x3CCCCCCD#32))
/-- its mean over the batch, summed. -/
def total (l : Q3 F) : FVec F S_ .f32 :=
  Host.reduceAdd (Host.divf (Host.reduceAdd l (constant S_ .f32 0x00000000#32) reducesTo_S16384x32x3_S32x3_d0 h_S_)
    (broadcastInDim S32x3 ![] bcast_S_S32x3 (constant S_ .f32 0x46800000#32))) (constant S_ .f32 0x00000000#32) reducesTo_S32x3_S_d0_1 h_S_

/-- The printed result. -/
theorem result_eq (s : State F) (g : Q3 F) : R_main_v170 s g = total (loss (dist (sol (ofS s)) g)) := by
  dsimp only [R_main_v170, total, loss, dist, sol, corr, cut, coef, z1, pick16, pick4, lam, m2, m1, nrm, ofS, rdot, up, to16, to4, to3, c1, c3]

end Cert.Proof.RefM

end
-- ==== Proof.RSide.lean ====
/- The reference at one batch member and joint, over the reals: its columns after the sweeps are the
   real ones and its losses are those of the real solution. A column with an infinite entry stays as
   it is. -/
module

public import proofs.«01_k».proof.Proof.RefM
public import proofs.«01_k».proof.Proof.E
public import Idealize.ShloMosaic.Lib.ValueLayout
public import Idealize.ShloMosaic.PureOps.Ideal.Laws

@[expose] public section

noncomputable section

namespace Cert.Proof.RSide

open Idealize.ShloMosaic Idealize.ShloMosaic.ValueIdx Cert.ReferenceIdeal Cert.ReferenceIdeal.Gen Cert.Proof.RefM

variable {b : Fin 16384} {j : Fin 32}

theorem c0_at (x : BitVec 32) (i : S16384x32.Idx) {a : ℝ} (h : Ideal.ofBits .f32 x = (a : EReal)) : c0 (F := Ideal) x i = (a : EReal) :=
  (broadcastInDim_scalar_apply _ _ _).trans h
theorem c1_at (x : BitVec 32) (i : S16384x32x1.Idx) {a : ℝ} (h : Ideal.ofBits .f32 x = (a : EReal)) : c1 (F := Ideal) x i = (a : EReal) :=
  (broadcastInDim_scalar_apply _ _ _).trans h
theorem z1_at (i : S16384x32x1.Idx) : z1 (F := Ideal) i = ((0 : ℝ) : EReal) :=
  (broadcastInDim_scalar_apply _ _ _).trans E.bits_zero

theorem up_at {α : Type} (x : S16384x32.Idx → α) (b : Fin 16384) (j : Fin 32) (u : Fin 1) : up x (ix3 b j u) = x (ix2 b j) :=
  broadcastInDim_apply _ _ _ _ _ fun a => by fin_cases a <;> rfl
theorem to16_at {α : Type} (x : S16384x32x1.Idx → α) (b : Fin 16384) (j : Fin 32) (r : Fin 16) : to16 x (ix3 b j r) = x (ix3 b j 0) :=
  broadcastInDim_apply _ _ _ _ _ fun a => by fin_cases a <;> rfl
theorem to4_at {α : Type} (x : S16384x32x1.Idx → α) (b : Fin 16384) (j : Fin 32) (r : Fin 4) : to4 x (ix3 b j r) = x (ix3 b j 0) :=
  broadcastInDim_apply _ _ _ _ _ fun a => by fin_cases a <;> rfl
theorem to3_at {α : Type} (x : S16384x32x1.Idx → α) (b : Fin 16384) (j : Fin 32) (r : Fin 3) : to3 x (ix3 b j r) = x (ix3 b j 0) :=
  broadcastInDim_apply _ _ _ _ _ fun a => by fin_cases a <;> rfl

theorem red2 : S16384x32x16.Reduces [2] S16384x32 := by decide

theorem lift2 (r : Fin 16) : red2.lift (ix2 b j) r = ix3 b j r := by
  funext a; fin_cases a <;> rfl

theorem dot_at (x y : Q16 Ideal) : rdot x y (ix2 b j) = ∑ r, x (ix3 b j r) * y (ix3 b j r) := by
  unfold rdot
  rw [hostReduceAdd_apply, Ideal.hostReduceAdd_single _ red2, constant_apply, Ideal.ofBits_zero_f32, zero_add]
  exact Finset.sum_congr rfl fun r _ => congrArg (mulf x y) (lift2 r)

theorem tan_at {t : Q0 Ideal} {x : ℝ} (h : t (ix2 b j) = (x : EReal)) : rtan t (ix2 b j) = ((Rl.tan x : ℝ) : EReal) := by
  refine E.hdiv ?_ (E.add (E.habs h) (E.hsqrt (E.add (c0_at _ _ E.bits_one) (E.mul h h)) (E.one_add_sq_pos x).le)) (E.root_pos x)
  rw [E.selGe h (c0_at _ _ E.bits_zero)]
  split_ifs
  exacts [c0_at _ _ E.bits_one, c0_at _ _ E.bits_neg_one]

theorem c_at {t : Q1 Ideal} {x : ℝ} (h : t (ix3 b j 0) = (x : EReal)) : rC t (ix3 b j 0) = ((Rl.cs x : ℝ) : EReal) :=
  E.hrsqrt (E.add (c1_at _ _ E.bits_one) (E.mul h h)) (E.one_add_sq_pos x)
theorem s_at {t : Q1 Ideal} {x : ℝ} (h : t (ix3 b j 0) = (x : EReal)) : rS t (ix3 b j 0) = ((x * Rl.cs x : ℝ) : EReal) :=
  E.mul h (c_at h)

/-- A rotation by nothing. -/
theorem turnL {t : Q1 Ideal} (x y : Q16 Ideal) (ht : t (ix3 b j 0) = ((0 : ℝ) : EReal)) {r : Fin 16} :
    subf (mulf (to16 (rC t)) x) (mulf (to16 (rS t)) y) (ix3 b j r) = x (ix3 b j r) := by
  have hc := c_at ht
  have hs := s_at ht
  rw [Rl.cs_zero] at hc hs
  rw [zero_mul] at hs
  change to16 (rC t) (ix3 b j r) * x (ix3 b j r) - to16 (rS t) (ix3 b j r) * y (ix3 b j r) = _
  rw [to16_at, to16_at, hc, hs]; simp
theorem turnR {t : Q1 Ideal} (x y : Q16 Ideal) (ht : t (ix3 b j 0) = ((0 : ℝ) : EReal)) {r : Fin 16} :
    addf (mulf (to16 (rS t)) x) (mulf (to16 (rC t)) y) (ix3 b j r) = y (ix3 b j r) := by
  have hc := c_at ht
  have hs := s_at ht
  rw [Rl.cs_zero] at hc hs
  rw [zero_mul] at hs
  change to16 (rS t) (ix3 b j r) * x (ix3 b j r) + to16 (rC t) (ix3 b j r) * y (ix3 b j r) = _
  rw [to16_at, to16_at, hc, hs]; simp

/-- A column of the reference's is this real one. -/
structure Is (b : Fin 16384) (j : Fin 32) (p : Col Ideal) (q : Rl.Col) : Prop where
  a : Rl.Shows (fun r => p.a (ix3 b j r)) q
  v : ∀ k, p.v (ix3 b j k) = (q.v k : EReal)

section
variable {p p' : Col Ideal} {q q' : Rl.Col}

theorem N_fin {q : Rl.Col} (h : q.inf = false) : q.N = (q.n : EReal) := by
  unfold Rl.Col.N
  rw [if_neg (by simp [h])]

theorem Is.nrm (h : Is b j p q) : nrm p.a (ix3 b j 0) = q.N := (up_at _ b j 0).trans ((dot_at _ _).trans h.a.N)

theorem Is.t (h : Is b j p q) (h' : Is b j p' q') : rT p.a p'.a (ix3 b j 0) = ((Rl.tt q q' : ℝ) : EReal) := by
  unfold rT
  rw [up_at, E.selLe', ← h.a.t h'.a (rtan (rtau p.a p'.a) (ix2 b j)) ?_, ← h.a.N, ← h'.a.N]
  · rw [mulf_apply, mulf_apply, mulf_apply, dot_at, dot_at, dot_at, c0_at _ _ E.bits_tol, c0_at _ _ E.bits_zero]
  · intro e e' hd
    have hg := (dot_at (b := b) (j := j) p.a p'.a).trans (h.a.gram h'.a e e')
    have hn := (dot_at (b := b) (j := j) p.a p.a).trans (h.a.gram h.a e e)
    have hn' := (dot_at (b := b) (j := j) p'.a p'.a).trans (h'.a.gram h'.a e' e')
    exact tan_at (E.hdiv (E.sub hn' hn) (E.mul (c0_at _ _ E.bits_two) hg) (mul_ne_zero two_ne_zero hd))

theorem Is.rotL (h : Is b j p q) (h' : Is b j p' q') : Is b j (rotL p p') (Rl.rotL q q') := by
  have ht := h.t h'
  refine ⟨⟨fun e r => ?_, fun e => ?_⟩, fun k =>
    E.sub (E.mul ((to4_at _ b j k).trans (c_at ht)) (h.v k)) (E.mul ((to4_at _ b j k).trans (s_at ht)) (h'.v k))⟩
  · by_cases e' : q'.inf = true
    · have h0 := Rl.tt_inf (p := q) (q := q') (.inr e')
      rw [h0] at ht
      rw [Rl.rotL_zero h0]
      exact (turnL _ _ ht).trans (h.a.fin e r)
    · exact E.sub (E.mul ((to16_at _ b j r).trans (c_at ht)) (h.a.fin e r))
        (E.mul ((to16_at _ b j r).trans (s_at ht)) (h'.a.fin (Bool.eq_false_iff.mpr e') r))
  · rw [Rl.tt_inf (p := q) (q := q') (.inl e)] at ht
    obtain ⟨r, hr⟩ := h.a.inf e
    refine ⟨r, ?_⟩
    have := turnL p.a p'.a ht (r := r)
    change subf _ _ (ix3 b j r) = ⊤ ∨ subf _ _ (ix3 b j r) = ⊥
    rw [this]
    exact hr

theorem Is.rotR (h : Is b j p q) (h' : Is b j p' q') : Is b j (rotR p p') (Rl.rotR q q') := by
  have ht := h.t h'
  refine ⟨⟨fun e r => ?_, fun e => ?_⟩, fun k =>
    E.add (E.mul ((to4_at _ b j k).trans (s_at ht)) (h.v k)) (E.mul ((to4_at _ b j k).trans (c_at ht)) (h'.v k))⟩
  · by_cases e' : q.inf = true
    · have h0 := Rl.tt_inf (p := q) (q := q') (.inl e')
      rw [h0] at ht
      rw [Rl.rotR_zero h0]
      exact (turnR _ _ ht).trans (h'.a.fin e r)
    · exact E.add (E.mul ((to16_at _ b j r).trans (s_at ht)) (h.a.fin (Bool.eq_false_iff.mpr e') r))
        (E.mul ((to16_at _ b j r).trans (c_at ht)) (h'.a.fin e r))
  · rw [Rl.tt_inf (p := q) (q := q') (.inr e)] at ht
    obtain ⟨r, hr⟩ := h'.a.inf e
    refine ⟨r, ?_⟩
    have := turnR p.a p'.a ht (r := r)
    change addf _ _ (ix3 b j r) = ⊤ ∨ addf _ _ (ix3 b j r) = ⊥
    rw [this]
    exact hr

end

/-- The same of all four. -/
structure Are (b : Fin 16384) (j : Fin 32) (s : St Ideal) (z : Rl.St) : Prop where
  h0 : Is b j s.c0 z.c0
  h1 : Is b j s.c1 z.c1
  h2 : Is b j s.c2 z.c2
  h3 : Is b j s.c3 z.c3

set_option maxRecDepth 20000 in
theorem Are.sweep {s : St Ideal} {z : Rl.St} (h : Are b j s z) : Are b j (sweep s) (Rl.sweep z) := by
  have h01 : Are b j (rot01 s) (Rl.rot01 z) := ⟨h.h0.rotL h.h1, h.h0.rotR h.h1, h.h2, h.h3⟩
  have h02 : Are b j (rot02 (rot01 s)) (Rl.rot02 (Rl.rot01 z)) := ⟨h01.h0.rotL h01.h2, h01.h1, h01.h0.rotR h01.h2, h01.h3⟩
  have h03 : Are b j (rot03 (rot02 (rot01 s))) (Rl.rot03 (Rl.rot02 (Rl.rot01 z))) := ⟨h02.h0.rotL h02.h3, h02.h1, h02.h2, h02.h0.rotR h02.h3⟩
  have h12 : Are b j (rot12 (rot03 (rot02 (rot01 s)))) (Rl.rot12 (Rl.rot03 (Rl.rot02 (Rl.rot01 z)))) :=
    ⟨h03.h0, h03.h1.rotL h03.h2, h03.h1.rotR h03.h2, h03.h3⟩
  have h13 : Are b j (rot13 (rot12 (rot03 (rot02 (rot01 s))))) (Rl.rot13 (Rl.rot12 (Rl.rot03 (Rl.rot02 (Rl.rot01 z))))) :=
    ⟨h12.h0, h12.h1.rotL h12.h3, h12.h2, h12.h1.rotR h12.h3⟩
  exact ⟨h13.h0, h13.h1, h13.h2.rotL h13.h3, h13.h2.rotR h13.h3⟩

/-! ## After the sweeps -/

section
variable {s : St Ideal} {z : Rl.St}

theorem Are.m1 (h : Are b j s z) : m1 s (ix3 b j 0) = min z.c0.N z.c1.N := by
  change min (nrm s.c0.a (ix3 b j 0)) (nrm s.c1.a (ix3 b j 0)) = _
  rw [h.h0.nrm, h.h1.nrm]
theorem Are.m2 (h : Are b j s z) : m2 s (ix3 b j 0) = min (min z.c0.N z.c1.N) z.c2.N := by
  change min (RefM.m1 s (ix3 b j 0)) (nrm s.c2.a (ix3 b j 0)) = _
  rw [h.m1, h.h2.nrm]
theorem Are.lam (h : Are b j s z) : lam s (ix3 b j 0) = Rl.lam z := by
  change min (RefM.m2 s (ix3 b j 0)) (nrm s.c3.a (ix3 b j 0)) = _
  rw [h.m2, h.h3.nrm]; rfl

/-- A comparison spread over the rows, at one of them. -/
theorem sel16 {x y : Q1 Ideal} (u v : Q16 Ideal) (r : Fin 16) :
    select (to16 (cmpf .olt x y)) u v (ix3 b j r) = if x (ix3 b j 0) < y (ix3 b j 0) then u (ix3 b j r) else v (ix3 b j r) := by
  change Scalar.select (to16 (cmpf .olt x y) (ix3 b j r)) _ _ = _
  rw [to16_at]
  exact E.cmpLt' _ _ _ _
theorem sel4 {x y : Q1 Ideal} (u v : Q4 Ideal) (r : Fin 4) :
    select (to4 (cmpf .olt x y)) u v (ix3 b j r) = if x (ix3 b j 0) < y (ix3 b j 0) then u (ix3 b j r) else v (ix3 b j r) := by
  change Scalar.select (to4 (cmpf .olt x y) (ix3 b j r)) _ _ = _
  rw [to4_at]
  exact E.cmpLt' _ _ _ _

theorem Are.pick4 (h : Are b j s z) (k : Fin 4) : pick4 s (ix3 b j k) = (((Rl.pick z).v k : ℝ) : EReal) := by
  unfold RefM.pick4 Rl.pick
  rw [sel4, sel4, sel4, h.h3.nrm, h.m2, h.h2.nrm, h.m1, h.h1.nrm, h.h0.nrm]
  split_ifs
  exacts [h.h3.v k, h.h2.v k, h.h1.v k, h.h0.v k]

/-- The picked column shows the real one. -/
theorem Are.pick16 (h : Are b j s z) : Rl.Shows (fun r => RefM.pick16 s (ix3 b j r)) (Rl.pick z) := by
  have e : (fun r => RefM.pick16 s (ix3 b j r)) = if z.c3.N < min (min z.c0.N z.c1.N) z.c2.N then (fun r => s.c3.a (ix3 b j r))
      else if z.c2.N < min z.c0.N z.c1.N then (fun r => s.c2.a (ix3 b j r))
      else if z.c1.N < z.c0.N then (fun r => s.c1.a (ix3 b j r)) else (fun r => s.c0.a (ix3 b j r)) := by
    funext r
    unfold RefM.pick16
    rw [sel16, sel16, sel16, h.h3.nrm, h.m2, h.h2.nrm, h.m1, h.h1.nrm, h.h0.nrm]
    split_ifs <;> rfl
  rw [e]
  unfold Rl.pick
  split_ifs
  exacts [h.h3.a, h.h2.a, h.h1.a, h.h0.a]

theorem Are.coef (h : Are b j s z) {k : Col Ideal} {p : Rl.Col} (hk : Is b j k p) :
    coef (RefM.pick16 s) (RefM.lam s) k (ix3 b j 0) = ((Rl.coef (Rl.pick z).a (Rl.lam z) p : ℝ) : EReal) := by
  unfold RefM.coef Rl.coef
  rw [E.selGt', hk.nrm, h.lam]
  by_cases hc : Rl.lam z < p.N
  · rw [if_pos hc, if_pos hc, hostDivf_apply, hk.nrm]
    by_cases hi : p.inf = true
    · rw [if_pos hi]
      unfold Rl.Col.N
      rw [if_pos hi, E.div_top]; rfl
    rw [if_neg hi]
    have hi' := Bool.eq_false_iff.mpr hi
    have hs : up (rdot k.a (RefM.pick16 s)) (ix3 b j 0) = ((Rl.dot p.a (Rl.pick z).a : ℝ) : EReal) :=
      (up_at _ b j 0).trans ((dot_at _ _).trans (hk.a.gram h.pick16 hi' (Rl.pick_inf z hc)))
    rw [E.hneg hs, N_fin hi']
    have h0 : (0 : EReal) < p.n := by
      rw [← N_fin hi']
      exact lt_of_le_of_lt (Rl.lam_nonneg z) hc
    exact E.div_real (EReal.coe_pos.mp h0).ne'
  · rw [if_neg hc, if_neg hc]
    exact z1_at _

end

theorem cut_at {t : Q1 Ideal} {a : ℝ} (h : t (ix3 b j 0) = (a : EReal)) : cut t (ix3 b j 0) = ((Rl.cut a : ℝ) : EReal) := by
  unfold cut Rl.cut
  rw [E.selLt (E.habs h) (c1_at _ _ E.bits_big)]
  split_ifs
  exacts [h, z1_at _]

/-- The corrected solution is the real one. -/
theorem sol_at {s : St Ideal} {z : Rl.St} (h : Are b j s z) (k : Fin 4) :
    sol s (ix3 b j k) = ((Rl.sol z k : ℝ) : EReal) := by
  have step : ∀ {c : Col Ideal} {p : Rl.Col} {x : Q4 Ideal} {y : Fin 4 → ℝ}, Is b j c p → (∀ k, x (ix3 b j k) = (y k : EReal)) →
      ∀ k, corr (RefM.pick16 s) (RefM.lam s) c x (ix3 b j k) = ((Rl.corr (Rl.pick z).a (Rl.lam z) p y k : ℝ) : EReal) :=
    fun hc hx k => E.add (hx k) (E.mul ((to4_at _ b j k).trans (cut_at (h.coef hc))) (hc.v k))
  exact step h.h3 (step h.h2 (step h.h1 (step h.h0 h.pick4))) k

set_option maxRecDepth 20000 in
/-- The loss at this batch member, joint and coordinate. -/
theorem loss_at {s : St Ideal} {z : Rl.St} (h : Are b j s z) (g : Q3 Ideal) (k : Fin 3) :
    loss (dist (sol s) g) (ix3 b j k) = E.loss (E.dist (Rl.sol z k.castSucc) (Rl.sol z 3) (g (ix3 b j k))) := by
  have e := sol_at h
  have d : dist (sol s) g (ix3 b j k) = E.dist (Rl.sol z k.castSucc) (Rl.sol z 3) (g (ix3 b j k)) := by
    have e1 : extractStridedSlice S16384x32x3 ![0, 0, 0] (sol s) slices_S16384x32x4_S16384x32x3_0_0_0 (ix3 b j k) = sol s (ix3 b j k.castSucc) :=
      extractStridedSlice_apply _ _ _ _ _ fun a => by fin_cases a <;> simp
    have e2 : extractStridedSlice S16384x32x1 ![0, 0, 3] (sol s) slices_S16384x32x4_S16384x32x1_0_0_3 (ix3 b j 0) = sol s (ix3 b j 3) :=
      extractStridedSlice_apply _ _ _ _ _ fun a => by fin_cases a <;> simp
    have e3 : to3 (Host.divf (c1 0x3F800000#32) (extractStridedSlice S16384x32x1 ![0, 0, 3] (sol s) slices_S16384x32x4_S16384x32x1_0_0_3)) (ix3 b j k)
        = Ideal.div (Ideal.ofBits .f32 0x3F800000#32) (Rl.sol z 3 : EReal) := by
      rw [to3_at, hostDivf_apply, e2, e 3]
      exact congrArg (Ideal.div · _) (broadcastInDim_scalar_apply _ _ _)
    unfold RefM.dist E.dist
    change max (_ * _ - _) (-(_ * _ - _)) = _
    rw [e1, e3, e k.castSucc]
  have c (x : BitVec 32) : c3 (F := Ideal) x (ix3 b j k) = Ideal.ofBits .f32 x := broadcastInDim_scalar_apply _ _ _
  rw [← d]
  unfold RefM.loss E.loss
  change Scalar.select (Ideal.cmp .olt _ (c3 (F := Ideal) _ _)) (c3 (F := Ideal) _ _ * _ * _) (_ - c3 (F := Ideal) _ _) = _
  rw [c, c, c]

end Cert.Proof.RSide

end
-- ==== Proof.Inp.lean ====
/- The design matrix of one batch member and joint, from the arguments. -/
module

public import proofs.«01_k».proof.Proof.KSide
public import proofs.«01_k».proof.Proof.RSide

@[expose] public section

noncomputable section

namespace Cert.Proof.Inp

open Idealize.ShloMosaic Idealize.ShloMosaic.ValueIdx

abbrev TP : Shape := ⟨4, ![16384, 8, 32, 2]⟩
abbrev TG : Shape := ⟨3, ![16384, 32, 3]⟩
abbrev TM : Shape := ⟨4, ![16384, 8, 3, 4]⟩
abbrev TW : Shape := ⟨3, ![16384, 8, 32]⟩

/-- An entry of the design matrix: the image coordinate in pixels times the last row of the camera,
    less the coordinate's row, weighted. -/
def entry (k : Fin 2) (p w m2 mk : EReal) : EReal :=
  ((p + Ideal.ofBits .f32 0x3F800000#32) * Ideal.ofBits .f32 0x3F000000#32 * Ideal.ofBits .f32 (Body.imgBits k) * m2 - mk) * w

/-- The view and the coordinate of a row. -/
def view (r : Fin 16) : Fin 8 := ⟨r.val / 2, by omega⟩
def coord (r : Fin 16) : Fin 2 := ⟨r.val % 2, by omega⟩

/-- The design matrix of batch member `b` and joint `j`. -/
def A (p : TP.Idx → EReal) (m : TM.Idx → EReal) (w : TW.Idx → EReal) (b : Fin 16384) (j : Fin 32) (c : Fin 4) (r : Fin 16) : EReal :=
  entry (coord r) (p (ix4 b (view r) j (coord r))) (w (ix3 b (view r) j)) (m (ix4 b (view r) 2 c)) (m (ix4 b (view r) (coord r).castSucc c))

/-- The loss of one coordinate. -/
def lossOf (p : TP.Idx → EReal) (g : TG.Idx → EReal) (m : TM.Idx → EReal) (w : TW.Idx → EReal) (b : Fin 16384) (j : Fin 32) (k : Fin 3) : EReal :=
  E.loss (E.dist (Rl.sol (Rl.swept (A p m w b j) 5) k.castSucc) (Rl.sol (Rl.swept (A p m w b j) 5) 3) (g (ix3 b j k)))

end Cert.Proof.Inp

end
-- ==== Proof.KIn.lean ====
/- The kernel's blocks, read off its arguments. -/
module

public import proofs.«01_k».proof.Proof.FrameI
public import proofs.«01_k».proof.Proof.Inp
public import Idealize.ShloMosaic.Lib.Pipeline.ValueKit

@[expose] public section

set_option maxRecDepth 16384

noncomputable section

namespace Cert.Proof.KIn

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

abbrev pred (c : Dev nD) : Inp.TP.Idx → EReal := m ((c : Thread nD τ).loc main_arg0)
abbrev gt (c : Dev nD) : Inp.TG.Idx → EReal := m ((c : Thread nD τ).loc main_arg1)
abbrev proj (c : Dev nD) : Inp.TM.Idx → EReal := m ((c : Thread nD τ).loc main_arg2)
abbrev valid (c : Dev nD) : Inp.TW.Idx → EReal := m ((c : Thread nD τ).loc main_arg3)

/-! ## The arrays as launched: each argument with its batch axis last -/

theorem V_v0 (c : Dev nD) : V m c main_v0 = transpose S2x8x32x16384 [3, 1, 2, 0] (m ((c : Thread nD τ).loc main_arg0)) transposes_S16384x8x32x2_S2x8x32x16384_3_1_2_0 := by
  simp only [V, V0, hostOps0, List.flatten_cons, List.flatten_nil, List.append_nil]
  after_results

theorem V_v1 (c : Dev nD) : V m c main_v1 = transpose S8x3x4x16384 [1, 2, 3, 0] (m ((c : Thread nD τ).loc main_arg2)) transposes_S16384x8x3x4_S8x3x4x16384_1_2_3_0 := by
  simp only [V, V0, hostOps0, List.flatten_cons, List.flatten_nil, List.append_nil]
  after_results

theorem V_v2 (c : Dev nD) : V m c main_v2 = transpose S8x32x16384 [1, 2, 0] (m ((c : Thread nD τ).loc main_arg3)) transposes_S16384x8x32_S8x32x16384_1_2_0 := by
  simp only [V, V0, hostOps0, List.flatten_cons, List.flatten_nil, List.append_nil]
  after_results

theorem V_v3 (c : Dev nD) : V m c main_v3 = transpose S3x32x16384 [2, 1, 0] (m ((c : Thread nD τ).loc main_arg1)) transposes_S16384x32x3_S3x32x16384_2_1_0 := by
  simp only [V, V0, hostOps0, List.flatten_cons, List.flatten_nil, List.append_nil]
  after_results

/-! ## The blocks -/

/-- The batch member of a lane of a block. -/
def mem (t : Fin cfg0.N) (l : Fin 1024) : Fin 16384 := ⟨t.val * 1024 + l.val, by have : t.val < 16 := lt_of_lt_of_eq t.isLt N_0; omega⟩

theorem idx : ∀ t, win0_0.index t = ![0, 0, 0, t.val] ∧ win0_1.index t = ![0, 0, 0, t.val] ∧ win0_2.index t = ![0, 0, t.val]
    ∧ win0_3.index t = ![0, 0, t.val] ∧ win0_4.index t = ![t.val, 0, 0] := by decide +kernel

theorem blk0 (c : Dev nD) (t : Fin cfg0.N) (k : Fin 2) (v : Fin 8) (j : Fin 32) (l : Fin 1024) :
    iblk m c 0 t (ValueIdx.ix4 k v j l) = pred m c (ValueIdx.ix4 (mem t l) v j k) := by
  blk_simp [iblk, (idx t).1]
  rw [V_v0]
  refine transpose_apply _ _ _ _ (ValueIdx.ix4 (mem t l) v j k) fun b => ?_
  fin_cases b <;> blk_simp [(idx t).1] <;> rfl

theorem blk1 (c : Dev nD) (t : Fin cfg0.N) (v : Fin 8) (k : Fin 3) (d : Fin 4) (l : Fin 1024) :
    iblk m c 1 t (ValueIdx.ix4 v k d l) = proj m c (ValueIdx.ix4 (mem t l) v k d) := by
  blk_simp [iblk, (idx t).2.1]
  rw [V_v1]
  refine transpose_apply _ _ _ _ (ValueIdx.ix4 (mem t l) v k d) fun b => ?_
  fin_cases b <;> blk_simp [(idx t).2.1] <;> rfl

theorem blk2 (c : Dev nD) (t : Fin cfg0.N) (v : Fin 8) (j : Fin 32) (l : Fin 1024) :
    iblk m c 2 t (ValueIdx.ix3 v j l) = valid m c (ValueIdx.ix3 (mem t l) v j) := by
  blk_simp [iblk, (idx t).2.2.1]
  rw [V_v2]
  refine transpose_apply _ _ _ _ (ValueIdx.ix3 (mem t l) v j) fun b => ?_
  fin_cases b <;> blk_simp [(idx t).2.2.1] <;> rfl

theorem blk3 (c : Dev nD) (t : Fin cfg0.N) (k : Fin 3) (j : Fin 32) (l : Fin 1024) :
    iblk m c 3 t (ValueIdx.ix3 k j l) = gt m c (ValueIdx.ix3 (mem t l) j k) := by
  blk_simp [iblk, (idx t).2.2.2.1]
  rw [V_v3]
  refine transpose_apply _ _ _ _ (ValueIdx.ix3 (mem t l) j k) fun b => ?_
  fin_cases b <;> blk_simp [(idx t).2.2.2.1] <;> rfl

/-! ## The loads -/

theorem ldP_at (x : Vec Ideal Body.SP .f32) (k : Fin 2) (v : Fin 8) (j : Fin 32) (l : Fin 1024) :
    Body.ldP x k v (ValueIdx.ix2 j l) = x (ValueIdx.ix4 k v j l) := by
  unfold Body.ldP
  refine (shapeCast_apply _ _ _ (ValueIdx.ix4 0 0 j l) ?_).trans ?_
  · rw [Shape.rowMajor_val_four, Shape.rowMajor_val_two]
    simp
  · refine congrArg x (funext fun a => Fin.ext ?_)
    fin_cases a <;> simp

theorem ldM_at (x : Vec Ideal Body.SM .f32) (v : Fin 8) (k : Fin 3) (d : Fin 4) (j : Fin 32) (l : Fin 1024) :
    Body.ldM x v k d (ValueIdx.ix2 j l) = x (ValueIdx.ix4 v k d l) := by
  unfold Body.ldM
  refine (ValueIdx.broadcastTo_1b_ab_apply _ _ _ _).trans ((shapeCast_apply _ _ _ (ValueIdx.ix4 0 0 0 l) ?_).trans ?_)
  · rw [Shape.rowMajor_val_four, Shape.rowMajor_val_two]
    simp
  · refine congrArg x (funext fun a => Fin.ext ?_)
    fin_cases a <;> simp

theorem ldW_at (x : Vec Ideal Body.SW .f32) (v : Fin 8) (j : Fin 32) (l : Fin 1024) :
    Body.ldW x v (ValueIdx.ix2 j l) = x (ValueIdx.ix3 v j l) := by
  unfold Body.ldW
  refine (shapeCast_apply _ _ _ (ValueIdx.ix3 0 j l) ?_).trans ?_
  · rw [Shape.rowMajor_val_three, Shape.rowMajor_val_two]
    simp
  · refine congrArg x (funext fun a => Fin.ext ?_)
    fin_cases a <;> simp

theorem ldG_at (x : Vec Ideal Body.SG .f32) (k : Fin 3) (j : Fin 32) (l : Fin 1024) :
    Body.ldG x k (ValueIdx.ix2 j l) = x (ValueIdx.ix3 k j l) := by
  unfold Body.ldG
  refine (shapeCast_apply _ _ _ (ValueIdx.ix3 0 j l) ?_).trans ?_
  · rw [Shape.rowMajor_val_three, Shape.rowMajor_val_two]
    simp
  · refine congrArg x (funext fun a => Fin.ext ?_)
    fin_cases a <;> simp

/-! ## The design matrix and the loss at a joint and lane -/

theorem colA_of (x0 : Vec Ideal Body.SP .f32) (x1 : Vec Ideal Body.SM .f32) (x2 : Vec Ideal Body.SW .f32)
    (j : Fin 32) (l : Fin 1024) (d : Fin 4) (r : Fin 16) :
    Body.colA x0 x1 x2 d r (ValueIdx.ix2 j l)
      = Inp.entry (Inp.coord r) (x0 (ValueIdx.ix4 (Inp.coord r) (Inp.view r) j l)) (x2 (ValueIdx.ix3 (Inp.view r) j l))
        (x1 (ValueIdx.ix4 (Inp.view r) 2 d l)) (x1 (ValueIdx.ix4 (Inp.view r) (Inp.coord r).castSucc d l)) := by
  unfold Body.colA Body.ent Inp.entry
  rw [← ldP_at x0, ← ldM_at x1 _ _ _ j, ← ldM_at x1 _ _ _ j, ← ldW_at x2]
  rfl

theorem entry_congr (k : Fin 2) {p p' w w' a a' b b' : EReal} (hp : p = p') (hw : w = w') (ha : a = a') (hb : b = b') :
    Inp.entry k p w a b = Inp.entry k p' w' a' b' := by
  rw [hp, hw, ha, hb]

theorem colA_at (c : Dev nD) (t : Fin cfg0.N) (j : Fin 32) (l : Fin 1024) (d : Fin 4) (r : Fin 16) :
    Body.colA (iblk m c 0 t) (iblk m c 1 t) (iblk m c 2 t) d r (ValueIdx.ix2 j l)
      = Inp.A (pred m c) (proj m c) (valid m c) (mem t l) j d r :=
  (colA_of _ _ _ j l d r).trans (entry_congr _ (blk0 ..) (blk2 ..) (blk1 ..) (blk1 ..))

theorem trips : k0_t1_loop.trips = 5 := by decide

/-- The losses of one joint and batch member. -/
def three (c : Dev nD) (b : Fin 16384) (j : Fin 32) : EReal :=
  Inp.lossOf (pred m c) (gt m c) (proj m c) (valid m c) b j 0 + Inp.lossOf (pred m c) (gt m c) (proj m c) (valid m c) b j 1
    + Inp.lossOf (pred m c) (gt m c) (proj m c) (valid m c) b j 2

theorem ldG_blk (c : Dev nD) (t : Fin cfg0.N) (k : Fin 3) (j : Fin 32) (l : Fin 1024) :
    Body.ldG (iblk m c 3 t) k (ValueIdx.ix2 j l) = gt m c (ValueIdx.ix3 (mem t l) j k) :=
  (ldG_at _ k j l).trans (blk3 ..)

theorem total_at (c : Dev nD) (t : Fin cfg0.N) (j : Fin 32) (l : Fin 1024) :
    Body.totalV (iblk m c 0 t) (iblk m c 1 t) (iblk m c 2 t) (iblk m c 3 t) k0_t1_loop.trips (ValueIdx.ix2 j l)
      = three m c (mem t l) j := by
  rw [trips]
  refine (KSide.total_at _ _ _ _ _ (fun d r => colA_at m c t j l d r)).trans ?_
  rw [ldG_blk, ldG_blk, ldG_blk]
  rfl

/-- The body's result at a lane: the losses of the block's joints, summed. -/
theorem outV_at (x0 : Vec Ideal Body.SP .f32) (x1 : Vec Ideal Body.SM .f32) (x2 : Vec Ideal Body.SW .f32)
    (x3 : Vec Ideal Body.SG .f32) (n : ℕ) (l : Fin 1024) :
    Body.outV x0 x1 x2 x3 n (ValueIdx.ix3 0 0 l) = ∑ j : Fin 32, Body.totalV x0 x1 x2 x3 n (ValueIdx.ix2 j l) := by
  unfold Body.outV
  refine (shapeCast_apply _ _ _ (ValueIdx.ix2 0 l) ?_).trans ((shapeCast_apply _ _ _ (ValueIdx.ix1 l) ?_).trans ?_)
  · rw [Shape.rowMajor_val_three, Shape.rowMajor_val_two]
    simp
  · rw [Shape.rowMajor_val_one, Shape.rowMajor_val_two]
    simp
  · refine (Ideal.multiReduction_add_single (Body.totalV x0 x1 x2 x3 n) _ Body.redV (.inl rfl) rfl _).trans ?_
    refine Finset.sum_congr rfl fun j _ => congrArg _ (funext fun a => Fin.ext ?_)
    fin_cases a <;> rfl

theorem out_at (c : Dev nD) (t : Fin cfg0.N) (l : Fin 1024) :
    Body.outV (iblk m c 0 t) (iblk m c 1 t) (iblk m c 2 t) (iblk m c 3 t) k0_t1_loop.trips (ValueIdx.ix3 0 0 l)
      = ∑ j : Fin 32, three m c (mem t l) j :=
  (outV_at ..).trans (Finset.sum_congr rfl fun j _ => total_at m c t j l)

/-! ## The kernel's result array -/

/-- What the kernel leaves: the losses of each batch member, summed over the joints. -/
def part (c : Dev nD) : S16x1x1024.Idx → EReal :=
  fun y => ∑ j : Fin 32, three m c ⟨(y 0).val * 1024 + (y 2).val, by have : (y 0).val < 16 := (y 0).isLt; have : (y 2).val < 1024 := (y 2).isLt; omega⟩ j

theorem hz : (![0, 0, 0] : Fin 3 → Nat) = fun _ => 0 := funext fun a => by fin_cases a <;> rfl

theorem lane (y : S1x1x1024.Idx) : ∃ l : Fin 1024, y = ValueIdx.ix3 0 0 l :=
  ⟨y 2, funext fun a => by
    match a with
    | ⟨0, _⟩ => exact Subsingleton.elim (α := Fin 1) _ _
    | ⟨1, _⟩ => exact Subsingleton.elim (α := Fin 1) _ _
    | ⟨2, _⟩ => rfl⟩

theorem final (c : Dev nD) : (KI.dats m 0 c).arrAt 4 (cfgs 0).N = part m c := by
  refine (KI.dats m 0 c).arrAt_eq_of_covers 4 _ (by decide +kernel) fun t hf y => ?_
  blk_simp
  rw [KI.after0_4]
  unfold KI.out0_4
  rw [View.canon_unit_zero hz]
  obtain ⟨l, rfl⟩ := lane y
  refine (out_at m c t l).trans ?_
  refine Finset.sum_congr rfl fun j _ => congrArg (three m c · j) (Fin.ext ?_)
  blk_simp [(idx t).2.2.2.2]
  rfl

/-- The kernel's result. -/
def res (c : Dev nD) : FVec Ideal S_ .f32 :=
  Host.divf (Host.reduceAdd (s := S16x1x1024) (φ := .f32) (part m c) (constant S_ .f32 0x00000000#32) reducesTo_S16x1x1024_S_d0_1_2 h_S_) (constant S_ .f32 0x46800000#32)

theorem run (ρ : Dev nD → PrngReg) :
    θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from KI.run_main m ρ
  · unfold Pipeline.afterTail₀ res
    simp only [hostOps1, List.flatten_cons, List.flatten_nil, List.append_nil]
    after_results
    have e : Pipeline.withArrays (cfgs 0).spec c (V0 m c) (fun w => (KI.dats m 0 c).arrAt w (cfgs 0).N) (Proc.devRef .tc main_v4) = part m c :=
      (Pipeline.withArrays_arr spec0 launch0.win.arr_inj c (V0 m c) _ 4).trans (final m c)
    rw [e]
  · exact W_main_arg0 m (KI.dats m) c
  · exact W_main_arg1 m (KI.dats m) c
  · exact W_main_arg2 m (KI.dats m) c
  · exact W_main_arg3 m (KI.dats m) c

end Cert.Proof.KIn

end
-- ==== Proof.RIn.lean ====
/- The reference's arguments at one batch member and joint: the columns before the loop are the
   design matrix's, the rotations the unit vectors; so the losses after the loop. -/
module

public import proofs.«01_k».proof.Proof.Inp
public import Idealize.ShloMosaic.Lib.Pipeline.Value

@[expose] public section

noncomputable section

namespace Cert.Proof.RIn

open Idealize.ShloMosaic Idealize.ShloMosaic.ValueIdx Cert.ReferenceIdeal Cert.ReferenceIdeal.Gen Cert.ReferenceIdeal.Step Cert.Proof.RefM Cert.Proof.RSide
open Cert.Proof.Inp (view coord entry)

variable (p : S16384x8x32x2.Idx → EReal) (m : S16384x8x3x4.Idx → EReal) (w : S16384x8x32.Idx → EReal)
variable (b : Fin 16384) (v : Fin 8) (j : Fin 32) (c : Fin 4)

theorem x_at (u : Fin 1) : A_main_v6 (F := Ideal) p m w (ix4 b v j u)
    = (p (ix4 b v j 0) + Ideal.ofBits .f32 0x3F800000#32) * Ideal.ofBits .f32 0x3F000000#32 * Ideal.ofBits .f32 0x43C00000#32 := by
  have e : A_main_v0 (F := Ideal) p m w (ix4 b v j u) = p (ix4 b v j 0) :=
    extractStridedSlice_apply _ _ _ _ _ fun a => by fin_cases a <;> simp
  have k (x : BitVec 32) : broadcastInDim S16384x8x32x1 ![] bcast_S_S16384x8x32x1 (constant (F := Ideal) S_ .f32 x) (ix4 b v j u) = Ideal.ofBits .f32 x :=
    broadcastInDim_scalar_apply _ _ _
  unfold A_main_v6 A_main_v4 A_main_v2
  rw [mulf_apply, mulf_apply, addf_apply, e]
  exact congr (congrArg _ (congr (congrArg _ (congrArg _ (k _))) (k _))) (k _)

theorem y_at (u : Fin 1) : A_main_v13 (F := Ideal) p m w (ix4 b v j u)
    = (p (ix4 b v j 1) + Ideal.ofBits .f32 0x3F800000#32) * Ideal.ofBits .f32 0x3F000000#32 * Ideal.ofBits .f32 0x44000000#32 := by
  have e : A_main_v7 (F := Ideal) p m w (ix4 b v j u) = p (ix4 b v j 1) :=
    extractStridedSlice_apply _ _ _ _ _ fun a => by fin_cases a <;> simp
  have k (x : BitVec 32) : broadcastInDim S16384x8x32x1 ![] bcast_S_S16384x8x32x1 (constant (F := Ideal) S_ .f32 x) (ix4 b v j u) = Ideal.ofBits .f32 x :=
    broadcastInDim_scalar_apply _ _ _
  unfold A_main_v13 A_main_v11 A_main_v9
  rw [mulf_apply, mulf_apply, addf_apply, e]
  exact congr (congrArg _ (congr (congrArg _ (congrArg _ (k _))) (k _))) (k _)

/-- A row of the camera matrix, its axis of one row cut away and put back, spread over the joints. -/
theorem row_at (x : S16384x8x1x4.Idx → EReal) :
    broadcastInDim S16384x8x32x4 ![0, 1, 2, 3] bcast_S16384x8x1x4_S16384x8x32x4_0_1_2_3
      (broadcastInDim S16384x8x1x4 ![0, 1, 3] bcast_S16384x8x4_S16384x8x1x4_0_1_3 (shapeCast S16384x8x4 x shapeCasts_S16384x8x1x4_S16384x8x4)) (ix4 b v j c)
      = x (ix4 b v 0 c) := by
  refine (broadcastInDim_apply _ _ _ _ (ix4 b v 0 c) fun a => by fin_cases a <;> rfl).trans ?_
  refine (broadcastInDim_apply _ _ _ _ (ix3 b v c) fun a => by fin_cases a <;> rfl).trans ?_
  refine shapeCast_apply _ _ _ _ ?_
  rw [Shape.rowMajor_val_three, Shape.rowMajor_val_four]
  simp

theorem m0_at : A_main_v26 (F := Ideal) p m w (ix4 b v j c) = m (ix4 b v 0 c) :=
  (row_at b v j c _).trans (extractStridedSlice_apply _ _ _ _ _ fun a => by fin_cases a <;> simp)
theorem m1_at : A_main_v31 (F := Ideal) p m w (ix4 b v j c) = m (ix4 b v 1 c) :=
  (row_at b v j c _).trans (extractStridedSlice_apply _ _ _ _ _ fun a => by fin_cases a <;> simp)
theorem m2_at : A_main_v24 (F := Ideal) p m w (ix4 b v j c) = m (ix4 b v 2 c) :=
  (row_at b v j c _).trans (extractStridedSlice_apply _ _ _ _ _ fun a => by fin_cases a <;> simp)

/-- Two rows stacked: the first, -/
theorem stack0_at (x y : S16384x8x32x1x4.Idx → EReal) :
    concatenate S16384x8x32x2x4 3 [⟨S16384x8x32x1x4, x⟩, ⟨S16384x8x32x1x4, y⟩] concatenates_S16384x8x32x1x4_S16384x8x32x1x4_S16384x8x32x2x4_d3
      (ix5 b v j 0 c) = x (ix5 b v j 0 c) :=
  concatenate_apply_piece (t := S16384x8x32x2x4) 3 [⟨S16384x8x32x1x4, x⟩, ⟨S16384x8x32x1x4, y⟩] _ _ 0 Nat.zero_lt_two S16384x8x32x1x4 x rfl rfl 0 rfl (ix5 b v j 0 c)
    (fun a ha => by fin_cases a <;> first | rfl | exact absurd rfl ha) rfl
/-- and the second. -/
theorem stack1_at (x y : S16384x8x32x1x4.Idx → EReal) :
    concatenate S16384x8x32x2x4 3 [⟨S16384x8x32x1x4, x⟩, ⟨S16384x8x32x1x4, y⟩] concatenates_S16384x8x32x1x4_S16384x8x32x1x4_S16384x8x32x2x4_d3
      (ix5 b v j 1 c) = y (ix5 b v j 0 c) :=
  concatenate_apply_piece (t := S16384x8x32x2x4) 3 [⟨S16384x8x32x1x4, x⟩, ⟨S16384x8x32x1x4, y⟩] _ _ 1 Nat.one_lt_two S16384x8x32x1x4 y rfl rfl 1 rfl (ix5 b v j 0 c)
    (fun a ha => by fin_cases a <;> first | rfl | exact absurd rfl ha) rfl

/-- An entry of the stacked rows, weighted. -/
theorem ent_at (k : Fin 2) : A_main_v38 (F := Ideal) p m w (ix5 b v j k c)
    = entry k (p (ix4 b v j k)) (w (ix3 b v j)) (m (ix4 b v 2 c)) (m (ix4 b v k.castSucc c)) := by
  have hw : A_main_v37 (F := Ideal) p m w (ix5 b v j k c) = w (ix3 b v j) :=
    (broadcastInDim_apply _ _ _ _ (ix5 b v j 0 0) fun a => by fin_cases a <;> rfl).trans
      (broadcastInDim_apply _ _ _ _ (ix3 b v j) fun a => by fin_cases a <;> rfl)
  have hx : A_main_v33 (F := Ideal) p m w (ix5 b v j 0 c)
      = (p (ix4 b v j 0) + Ideal.ofBits .f32 0x3F800000#32) * Ideal.ofBits .f32 0x3F000000#32 * Ideal.ofBits .f32 0x43C00000#32 * m (ix4 b v 2 c)
        - m (ix4 b v 0 c) := by
    refine (broadcastInDim_apply _ _ _ _ (ix4 b v j c) fun a => by fin_cases a <;> rfl).trans ?_
    unfold A_main_v27 A_main_v25
    rw [subf_apply, mulf_apply, m0_at, m2_at]
    refine congrArg (fun z : EReal => z * _ - _) ((broadcastInDim_apply _ _ _ _ (ix4 b v j 0) fun a => by fin_cases a <;> rfl).trans ?_)
    exact x_at p m w b v j 0
  have hy : A_main_v34 (F := Ideal) p m w (ix5 b v j 0 c)
      = (p (ix4 b v j 1) + Ideal.ofBits .f32 0x3F800000#32) * Ideal.ofBits .f32 0x3F000000#32 * Ideal.ofBits .f32 0x44000000#32 * m (ix4 b v 2 c)
        - m (ix4 b v 1 c) := by
    refine (broadcastInDim_apply _ _ _ _ (ix4 b v j c) fun a => by fin_cases a <;> rfl).trans ?_
    unfold A_main_v32 A_main_v30
    rw [subf_apply, mulf_apply, m1_at]
    refine (congrArg (fun z : EReal => _ * z - _) (m2_at p m w b v j c)).trans ?_
    refine congrArg (fun z : EReal => z * _ - _) ((broadcastInDim_apply _ _ _ _ (ix4 b v j 0) fun a => by fin_cases a <;> rfl).trans ?_)
    exact y_at p m w b v j 0
  unfold A_main_v38
  rw [mulf_apply, hw]
  unfold entry
  refine congrArg (· * _) ?_
  unfold A_main_v35
  fin_cases k
  · exact (stack0_at b v j c _ _).trans hx
  · exact (stack1_at b v j c _ _).trans hy

/-- The design matrix, laid out by batch member, joint, row and column. -/
theorem mat_at (r : Fin 16) : A_main_v40 (F := Ideal) p m w (ix4 b j r c) = Inp.A p m w b j c r := by
  unfold A_main_v40
  refine (shapeCast_apply _ _ _ (ix5 b j (view r) (coord r) c) ?_).trans ?_
  · rw [Shape.rowMajor_val_five, Shape.rowMajor_val_four]
    have h : r.val / 2 * 2 + r.val % 2 = r.val := by omega
    change (((b.val * 32 + j.val) * 8 + r.val / 2) * 2 + r.val % 2) * 4 + c.val = ((b.val * 32 + j.val) * 16 + r.val) * 4 + c.val
    omega
  · unfold A_main_v39
    refine (transpose_apply _ _ _ _ (ix5 b (view r) j (coord r) c) fun a => by fin_cases a <;> rfl).trans ?_
    exact ent_at p m w b (view r) j c (coord r)

/-- A column of it. -/
theorem col_at (x : S16384x32x16x4.Idx → EReal) (k : Fin 4) (h : S16384x32x16x4.Slices ![0, 0, 0, k.val] S16384x32x16x1) (r : Fin 16) :
    shapeCast S16384x32x16 (extractStridedSlice S16384x32x16x1 ![0, 0, 0, k.val] x h) shapeCasts_S16384x32x16x1_S16384x32x16 (ix3 b j r) = x (ix4 b j r k) := by
  refine (shapeCast_apply _ _ _ (ix4 b j r 0) ?_).trans ?_
  · rw [Shape.rowMajor_val_three, Shape.rowMajor_val_four]
    simp
  · exact extractStridedSlice_apply _ _ _ _ _ fun a => by fin_cases a <;> simp

/-- A row of the unit matrix, at every batch member and joint. -/
theorem unit_at (k : Fin 4) (h : S4x4.Slices ![k.val, 0] S1x4) (i : Fin 4) :
    broadcastInDim S16384x32x4 ![2] bcast_S4_S16384x32x4_2 (shapeCast S4 (extractStridedSlice S1x4 ![k.val, 0] (K_main_v54 (F := Ideal)) h) shapeCasts_S1x4_S4)
      (ix3 b j i) = (((if k = i then 1 else 0 : ℝ)) : EReal) := by
  refine (broadcastInDim_apply _ _ _ _ (ix1 i) fun a => by fin_cases a; rfl).trans ?_
  refine (shapeCast_apply _ _ _ (ix2 0 i) (by simp [Shape.rowMajor_val_two, Shape.rowMajor_val_one])).trans ?_
  refine (extractStridedSlice_apply _ _ _ _ (ix2 k i) fun a => by fin_cases a <;> simp).trans ?_
  have e : K_main_v54 (F := Ideal) (ix2 k i)
      = (((IntOp.cmpi .eq (BitVec.ofNat 32 k.val + 0#32) (BitVec.ofNat 32 i.val)).toNat : ℝ) : EReal) := rfl
  rw [e]
  have f : (IntOp.cmpi .eq (BitVec.ofNat 32 k.val + 0#32) (BitVec.ofNat 32 i.val)).toNat = if k = i then 1 else 0 := by
    clear e h; revert k i; decide
  rw [f]
  split_ifs <;> simp

theorem init_are : Are b j (ofS (init (F := Ideal) p m w)) (Rl.init (Inp.A p m w b j)) := by
  have s : ∀ (k : Fin 4) (x : Q16 Ideal) (u : Fin 4 → ℝ), (∀ r, x (ix3 b j r) = Inp.A p m w b j k r) →
      Rl.Shows (fun r => x (ix3 b j r)) ⟨Rl.reals (Inp.A p m w b j k), u, Rl.isInf (Inp.A p m w b j k)⟩ := by
    intro k x u h
    rw [funext h]
    exact Rl.reals_shows _ u
  have q : ∀ (k : Fin 4) (h : S16384x32x16x4.Slices ![0, 0, 0, k.val] S16384x32x16x1) (r : Fin 16),
      shapeCast S16384x32x16 (extractStridedSlice S16384x32x16x1 ![0, 0, 0, k.val] (A_main_v40 (F := Ideal) p m w) h) shapeCasts_S16384x32x16x1_S16384x32x16 (ix3 b j r)
        = Inp.A p m w b j k r := fun k h r => (col_at b j _ k h r).trans (mat_at p m w b j k r)
  have e : ∀ k i : Fin 4, (if k = i then (1 : ℝ) else 0) = (![![1, 0, 0, 0], ![0, 1, 0, 0], ![0, 0, 1, 0], ![0, 0, 0, 1]] : Fin 4 → Fin 4 → ℝ) k i := by
    intro k i; fin_cases k <;> fin_cases i <;> simp
  refine ⟨⟨s 0 _ _ (q 0 slices_S16384x32x16x4_S16384x32x16x1_0_0_0_0), fun i => ?_⟩, ⟨s 1 _ _ (q 1 slices_S16384x32x16x4_S16384x32x16x1_0_0_0_1), fun i => ?_⟩,
    ⟨s 2 _ _ (q 2 slices_S16384x32x16x4_S16384x32x16x1_0_0_0_2), fun i => ?_⟩, ⟨s 3 _ _ (q 3 slices_S16384x32x16x4_S16384x32x16x1_0_0_0_3), fun i => ?_⟩⟩
  · exact (unit_at b j 0 slices_S4x4_S1x4_0_0 i).trans (congrArg _ (e 0 i))
  · exact (unit_at b j 1 slices_S4x4_S1x4_1_0 i).trans (congrArg _ (e 1 i))
  · exact (unit_at b j 2 slices_S4x4_S1x4_2_0 i).trans (congrArg _ (e 2 i))
  · exact (unit_at b j 3 slices_S4x4_S1x4_3_0 i).trans (congrArg _ (e 3 i))

/-- The columns after `n` trips. -/
theorem iter_are (it : ℕ → State Ideal) (h0 : it 0 = init (F := Ideal) p m w) (hs : ∀ n, it (n + 1) = step n (it n)) (n : ℕ) :
    Are b j (ofS (it n)) (Rl.swept (Inp.A p m w b j) n) := by
  induction n with
  | zero => rw [h0]; exact init_are p m w b j
  | succ n ih =>
      rw [hs n, step_eq]
      unfold Rl.swept at ih ⊢
      rw [Function.iterate_succ_apply']
      exact ih.sweep

end Cert.Proof.RIn

end
-- ==== Proof.Sums.lean ====
/- The two means: the kernel adds a block's losses joint by joint and divides once, the reference divides each
   joint's and coordinate's sum; the losses are not negative, so the two agree, infinite losses included. -/
module

public import proofs.«01_k».proof.Proof.KIn
public import proofs.«01_k».proof.Proof.RIn

@[expose] public section

set_option maxRecDepth 16384

noncomputable section

namespace Cert.Proof.Sums

open Idealize.ShloMosaic
open Idealize.ShloMosaic.ValueIdx (hostDivf_apply hostReduceAdd_apply broadcastInDim_scalar_apply)

/-! ## The losses are not negative -/

theorem bits_lim : Ideal.ofBits .f32 0x3D4CCCCD#32 = ((13421773 / 2 ^ 28 : ℝ) : EReal) := by
  simp [Ideal.ofBits, Ideal.ieee, -EReal.coe_mul]; norm_num
theorem bits_off : Ideal.ofBits .f32 0x3CCCCCCD#32 = ((13421773 / 2 ^ 29 : ℝ) : EReal) := by
  simp [Ideal.ofBits, Ideal.ieee, -EReal.coe_mul]; norm_num
theorem bits_ten : Ideal.ofBits .f32 0x41200000#32 = ((10 : ℝ) : EReal) := by
  simp [Ideal.ofBits, Ideal.ieee, -EReal.coe_mul]; norm_num

theorem abs_nonneg (e : EReal) : 0 ≤ max e (-e) := by
  rcases le_total 0 e with h | h
  · exact le_max_of_le_left h
  · exact le_max_of_le_right (EReal.neg_nonneg.2 h)

theorem loss_eq (d : EReal) : E.loss d = if d < ((13421773 / 2 ^ 28 : ℝ) : EReal) then ((10 : ℝ) : EReal) * d * d else d - ((13421773 / 2 ^ 29 : ℝ) : EReal) := by
  unfold E.loss
  rw [bits_lim, bits_off, bits_ten]
  exact E.cmpLt' _ _ _ _

theorem loss_nonneg {d : EReal} (h : 0 ≤ d) : 0 ≤ E.loss d := by
  rw [loss_eq]
  split_ifs with hd
  · exact mul_nonneg (mul_nonneg (EReal.coe_nonneg.2 (by norm_num)) h) h
  · refine (EReal.sub_nonneg (.inr (EReal.coe_ne_top _)) (.inr (EReal.coe_ne_bot _))).2 (le_trans ?_ (not_lt.1 hd))
    exact EReal.coe_le_coe_iff.2 (by norm_num)

theorem lossOf_nonneg (p : Inp.TP.Idx → EReal) (g : Inp.TG.Idx → EReal) (m : Inp.TM.Idx → EReal) (w : Inp.TW.Idx → EReal)
    (b : Fin 16384) (j : Fin 32) (k : Fin 3) : 0 ≤ Inp.lossOf p g m w b j k :=
  loss_nonneg (abs_nonneg _)

/-! ## Sums -/

theorem sum_mul {ι : Type} (s : Finset ι) (f : ι → EReal) (hf : ∀ i, 0 ≤ f i) (r : EReal) :
    ∑ i ∈ s, f i * r = (∑ i ∈ s, f i) * r := by
  classical
  induction s using Finset.induction_on with
  | empty => simp
  | insert a s ha ih =>
      rw [Finset.sum_insert ha, Finset.sum_insert ha, ih, EReal.right_distrib_of_nonneg (hf a) (Finset.sum_nonneg fun i _ => hf i)]

/-- A sum over the blocks' lanes is one over the batch. -/
theorem lanes_of {S n N : ℕ} (h : S * n = N) (hlt : ∀ (s : Fin S) (l : Fin n), s.val * n + l.val < N) (f : Fin N → EReal) :
    ∑ s : Fin S, ∑ l : Fin n, f ⟨s.val * n + l.val, hlt s l⟩ = ∑ b, f b := by
  subst h
  have e := Fin.sum_univ_univ_mul_add S n (fun i => if h : i < S * n then f ⟨i, h⟩ else 0)
  refine Eq.trans (Finset.sum_congr rfl fun s _ => Finset.sum_congr rfl fun l _ => ?_) (e.trans ?_)
  · rw [dif_pos (hlt s l)]
  · exact Finset.sum_congr rfl fun b _ => dif_pos b.isLt

theorem lanes (f : Fin 16384 → EReal) :
    ∑ t : Fin 16, ∑ l : Fin 1024, f ⟨t.val * 1024 + l.val, by omega⟩ = ∑ b, f b :=
  lanes_of (by decide) _ f

/-- The mean of the batch's losses, summed over joints and coordinates. -/
def mean (f : Fin 16384 → Fin 32 → Fin 3 → EReal) : EReal :=
  (∑ b, ∑ j, (f b j 0 + f b j 1 + f b j 2)) * ((1 / 16384 : ℝ) : EReal)

theorem ofMeans_of {B J : Type} [Fintype B] [Fintype J] (f : B → J → Fin 3 → EReal) (hf : ∀ b j k, 0 ≤ f b j k) (r : EReal) :
    ∑ j, ∑ k, (∑ b, f b j k) * r = (∑ b, ∑ j, (f b j 0 + f b j 1 + f b j 2)) * r := by
  have h1 : ∀ j k, 0 ≤ ∑ b, f b j k := fun j k => Finset.sum_nonneg fun b _ => hf b j k
  have e : ∀ j, ∑ k, (∑ b, f b j k) * r = (∑ k, ∑ b, f b j k) * r := fun j => sum_mul _ _ (h1 j) r
  rw [Finset.sum_congr rfl fun j _ => e j, sum_mul _ _ (fun j => Finset.sum_nonneg fun k _ => h1 j k), Finset.sum_comm (γ := B)]
  refine congrArg (· * r) (Finset.sum_congr rfl fun j _ => ?_)
  rw [Finset.sum_comm]
  exact Finset.sum_congr rfl fun b _ => Fin.sum_univ_three _

theorem ofMeans (f : Fin 16384 → Fin 32 → Fin 3 → EReal) (hf : ∀ b j k, 0 ≤ f b j k) :
    ∑ j, ∑ k, (∑ b, f b j k) * ((1 / 16384 : ℝ) : EReal) = mean f :=
  ofMeans_of f hf _

/-! ## The kernel's result -/

theorem kernel_at (m : (ℓ : Loc Cert.KernelIdeal.nD Cert.KernelIdeal.τ Cert.KernelIdeal.sig) → Buf (Elt Ideal) ℓ)
    (c : Dev Cert.KernelIdeal.nD) (i : Cert.KernelIdeal.S_.Idx) :
    KIn.res m c i = mean (Inp.lossOf (KIn.pred m c) (KIn.gt m c) (KIn.proj m c) (KIn.valid m c)) := by
  unfold KIn.res
  rw [hostDivf_apply, hostReduceAdd_apply, Ideal.hostReduceAdd_total _ (fun b => b.elim0), ValueIdx.constant_apply, ValueIdx.constant_apply,
    Ideal.ofBits_zero_f32, zero_add, E.bits_16384, Ideal.div_coe (by norm_num)]
  unfold mean
  refine congrArg (· * ((1 / 16384 : ℝ) : EReal)) ?_
  rw [Idealize.ShloMosaic.sum_idx3]
  refine Eq.trans (Finset.sum_congr rfl fun t _ => ?_) (lanes fun b => ∑ j, KIn.three m c b j)
  rw [Fin.sum_univ_one]
  rfl

/-! ## The reference's -/

open Cert.ReferenceIdeal Cert.ReferenceIdeal.Gen in
theorem red0 : S16384x32x3.Reduces [0] S32x3 := by decide

open Cert.ReferenceIdeal Cert.ReferenceIdeal.Gen in
theorem reference_at (l : RefM.Q3 Ideal) (f : Fin 16384 → Fin 32 → Fin 3 → EReal) (hl : ∀ b j k, l (ValueIdx.ix3 b j k) = f b j k)
    (hf : ∀ b j k, 0 ≤ f b j k) (i : S_.Idx) : RefM.total l i = mean f := by
  unfold RefM.total
  rw [hostReduceAdd_apply, Ideal.hostReduceAdd_total _ (fun b => b.elim0), ValueIdx.constant_apply, Ideal.ofBits_zero_f32, zero_add,
    ← ofMeans f hf, ValueIdx.sum_idx2]
  refine Finset.sum_congr rfl fun j _ => Finset.sum_congr rfl fun k _ => ?_
  rw [hostDivf_apply, hostReduceAdd_apply, Ideal.hostReduceAdd_single _ red0, ValueIdx.constant_apply, Ideal.ofBits_zero_f32, zero_add,
    broadcastInDim_scalar_apply, ValueIdx.constant_apply, E.bits_16384, Ideal.div_coe (by norm_num)]
  refine congrArg (· * ((1 / 16384 : ℝ) : EReal)) ?_
  refine Finset.sum_congr rfl fun b _ => Eq.trans (congrArg l (funext fun a => Fin.ext ?_)) (hl b j k)
  fin_cases a <;> rfl

end Cert.Proof.Sums

end
-- ==== Proof.Value.lean ====
/- The value claim: both programs end holding the mean loss of `Sums.mean`, whatever the arguments. -/
module

public import proofs.«01_k».proof.Defs
public import proofs.«01_k».proof.Proof.Sums
public import proofs.«01_k».proof.Proof.Gen.ReferenceIdeal.StepRun

@[expose] public section

set_option maxRecDepth 16384

noncomputable section

namespace Cert.Proof.Value

open Idealize.ShloMosaic Idealize.SL.Sem
open Cert.ReferenceIdeal Cert.ReferenceIdeal.Gen Cert.ReferenceIdeal.Step

variable (m' : (ℓ : Loc nD τ sig) → Buf (Elt Ideal) ℓ)

/-- The reference's columns after `n` sweeps. -/
def it (c : Dev nD) : ℕ → State Ideal
  | 0 => Cert.ReferenceIdeal.StepRun.initState m' c
  | n + 1 => step n (it c n)

theorem reference_res (c : Dev nD) :
    R_main_v170 (it m' c 5) (m' ((c.tc : Thread nD τ).loc main_arg1))
      = fun _ => Sums.mean (Inp.lossOf (m' ((c.tc : Thread nD τ).loc main_arg0)) (m' ((c.tc : Thread nD τ).loc main_arg1))
          (m' ((c.tc : Thread nD τ).loc main_arg2)) (m' ((c.tc : Thread nD τ).loc main_arg3))) := by
  rw [RefM.result_eq]
  refine funext fun i => Sums.reference_at _ _ (fun b j k => ?_) (Sums.lossOf_nonneg _ _ _ _) i
  exact RSide.loss_at (RIn.iter_are _ _ _ b j (it m' c) rfl (fun _ => rfl) 5) _ k

theorem algebraic : Cert.algebraic_KernelIdeal_ReferenceIdeal := by
  intro m g m' g' _ hagree
  refine ⟨KIn.res m, KIn.run m g, (θ_run _ _ _).mono (fun r h c => ⟨(h c).1.trans ?_, (h c).2⟩)
    (Cert.ReferenceIdeal.StepRun.run_iter m' g' (it m') (fun _ => rfl) (fun _ _ => rfl))⟩
  rw [reference_res, (hagree c).1, (hagree c).2.1, (hagree c).2.2.1, (hagree c).2.2.2]
  exact funext fun i => (Sums.kernel_at m c i).symm

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.FrameK
public import proofs.«01_k».proof.Proof.FrameI
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => K.frame m ρ, fun m ρ _ => KI.frame m ρ,
  fun m ρ _ => (θ_run (Cert.ReferenceIdeal.defs (F := Ideal)) _ _).mono
    (fun r h => And.intro (fun c => (h c).2) (sem_eq_zero_of_no_sems rfl r.2)) (Cert.ReferenceIdeal.Value.run (F := Ideal) m ρ), trivial, Value.algebraic⟩

end Cert.Proof

end
